-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S1152x2x128 Cert.KernelIdeal.S1152x1x128
  ∧ IdealRules.bf16_pair.PackStatement Cert.KernelIdeal.S256x128
  ∧ IdealRules.bf16_pair.Statement Cert.KernelIdeal.S32x2x128 Cert.KernelIdeal.S32x1x128
  ∧ IdealRules.bf16_pair.Statement Cert.KernelIdeal.S64x128 Cert.KernelIdeal.S32x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v40)) (v3 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x7168 : Shape := ⟨3, ![2, 128, 7168]⟩
abbrev S7168 : Shape := ⟨1, ![7168]⟩
abbrev S64x64 : Shape := ⟨2, ![64, 64]⟩
abbrev S112x112 : Shape := ⟨2, ![112, 112]⟩
abbrev S_ : Shape := ⟨0, ![]⟩
abbrev S3584x18432 : Shape := ⟨2, ![3584, 18432]⟩
abbrev S18432 : Shape := ⟨1, ![18432]⟩
abbrev S112x1 : Shape := ⟨2, ![112, 1]⟩
abbrev S112x16 : Shape := ⟨2, ![112, 16]⟩
abbrev S112x128 : Shape := ⟨2, ![112, 128]⟩
abbrev S384x128 : Shape := ⟨2, ![384, 128]⟩
abbrev S384x256 : Shape := ⟨2, ![384, 256]⟩
abbrev S1x384x256 : Shape := ⟨3, ![1, 384, 256]⟩
abbrev S4x384x256 : Shape := ⟨3, ![4, 384, 256]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x1 : Shape := ⟨2, ![1, 1]⟩
abbrev S256x7168 : Shape := ⟨2, ![256, 7168]⟩
abbrev S1x7168 : Shape := ⟨2, ![1, 7168]⟩
abbrev S256x1 : Shape := ⟨2, ![256, 1]⟩
abbrev S32x7168 : Shape := ⟨2, ![32, 7168]⟩
abbrev S32x1 : Shape := ⟨2, ![32, 1]⟩
abbrev S1152x128 : Shape := ⟨2, ![1152, 128]⟩
abbrev S2176x128 : Shape := ⟨2, ![2176, 128]⟩
abbrev S32x256 : Shape := ⟨2, ![32, 256]⟩
abbrev S1x256x256 : Shape := ⟨3, ![1, 256, 256]⟩
abbrev S256x128 : Shape := ⟨2, ![256, 128]⟩
abbrev S32x128 : Shape := ⟨2, ![32, 128]⟩
abbrev S32x384 : Shape := ⟨2, ![32, 384]⟩
abbrev S256x384 : Shape := ⟨2, ![256, 384]⟩
abbrev S64x128 : Shape := ⟨2, ![64, 128]⟩
abbrev S32 : Shape := ⟨1, ![32]⟩
abbrev S8x128 : Shape := ⟨2, ![8, 128]⟩
abbrev S1x18432 : Shape := ⟨2, ![1, 18432]⟩
abbrev S256x18432 : Shape := ⟨2, ![256, 18432]⟩
abbrev S3584x1024 : Shape := ⟨2, ![3584, 1024]⟩
abbrev S1x1024 : Shape := ⟨2, ![1, 1024]⟩
abbrev S256x1024 : Shape := ⟨2, ![256, 1024]⟩
abbrev S3584x1x1024 : Shape := ⟨3, ![3584, 1, 1024]⟩
abbrev S3584x2x1024 : Shape := ⟨3, ![3584, 2, 1024]⟩
abbrev S7168x1024 : Shape := ⟨2, ![7168, 1024]⟩
abbrev S2x128x18432 : Shape := ⟨3, ![2, 128, 18432]⟩
abbrev S2x128 : Shape := ⟨2, ![2, 128]⟩

abbrev nBuf : Space → Nat
  | .hbm => 76
  | .vmem => 23
  | .smem => 1
  | _ => 0

abbrev bufTy : (tb : Table) → Fin (tcTables nBuf tb) → BufTy
  | .hbm, ⟨0, _⟩ => ⟨S2x128x7168, .bf16⟩
  | .hbm, ⟨1, _⟩ => ⟨S7168, .f32⟩
  | .hbm, ⟨2, _⟩ => ⟨S64x64, .bf16⟩
  | .hbm, ⟨3, _⟩ => ⟨S112x112, .bf16⟩
  | .hbm, ⟨4, _⟩ => ⟨S_, .f32⟩
  | .hbm, ⟨5, _⟩ => ⟨S3584x18432, .i8⟩
  | .hbm, ⟨6, _⟩ => ⟨S18432, .f32⟩
  | .hbm, ⟨7, _⟩ => ⟨S112x1, .bf16⟩
  | .hbm, ⟨8, _⟩ => ⟨S112x16, .bf16⟩
  | .hbm, ⟨9, _⟩ => ⟨S112x128, .bf16⟩
  | .hbm, ⟨10, _⟩ => ⟨S_, .i32⟩
  | .hbm, ⟨11, _⟩ => ⟨S_, .bf16⟩
  | .hbm, ⟨12, _⟩ => ⟨S384x128, .bf16⟩
  | .hbm, ⟨13, _⟩ => ⟨S_, .i32⟩
  | .hbm, ⟨14, _⟩ => ⟨S_, .bf16⟩
  | .hbm, ⟨15, _⟩ => ⟨S384x128, .bf16⟩
  | .hbm, ⟨16, _⟩ => ⟨S384x256, .bf16⟩
  | .hbm, ⟨17, _⟩ => ⟨S_, .i32⟩
  | .hbm, ⟨18, _⟩ => ⟨S_, .bf16⟩
  | .hbm, ⟨19, _⟩ => ⟨S384x128, .bf16⟩
  | .hbm, ⟨20, _⟩ => ⟨S_, .i32⟩
  | .hbm, ⟨21, _⟩ => ⟨S_, .bf16⟩
  | .hbm, ⟨22, _⟩ => ⟨S384x128, .bf16⟩
  | .hbm, ⟨23, _⟩ => ⟨S384x256, .bf16⟩
  | .hbm, ⟨24, _⟩ => ⟨S_, .i32⟩
  | .hbm, ⟨25, _⟩ => ⟨S_, .bf16⟩
  | .hbm, ⟨26, _⟩ => ⟨S384x128, .bf16⟩
  | .hbm, ⟨27, _⟩ => ⟨S_, .i32⟩
  | .hbm, ⟨28, _⟩ => ⟨S_, .bf16⟩
  | .hbm, ⟨29, _⟩ => ⟨S384x128, .bf16⟩
  | .hbm, ⟨30, _⟩ => ⟨S384x256, .bf16⟩
  | .hbm, ⟨31, _⟩ => ⟨S_, .i32⟩
  | .hbm, ⟨32, _⟩ => ⟨S_, .bf16⟩
  | .hbm, ⟨33, _⟩ => ⟨S384x128, .bf16⟩
  | .hbm, ⟨34, _⟩ => ⟨S_, .i32⟩
  | .hbm, ⟨35, _⟩ => ⟨S_, .bf16⟩
  | .hbm, ⟨36, _⟩ => ⟨S384x128, .bf16⟩
  | .hbm, ⟨37, _⟩ => ⟨S384x256, .bf16⟩
  | .hbm, ⟨38, _⟩ => ⟨S1x384x256, .bf16⟩
  | .hbm, ⟨39, _⟩ => ⟨S1x384x256, .bf16⟩
  | .hbm, ⟨40, _⟩ => ⟨S1x384x256, .bf16⟩
  | .hbm, ⟨41, _⟩ => ⟨S1x384x256, .bf16⟩
  | .hbm, ⟨42, _⟩ => ⟨S4x384x256, .bf16⟩
  | .hbm, ⟨43, _⟩ => ⟨S4x4, .i32⟩
  | .hbm, ⟨44, _⟩ => ⟨S4x4, .i32⟩
  | .hbm, ⟨45, _⟩ => ⟨S_, .i32⟩
  | .hbm, ⟨46, _⟩ => ⟨S4x4, .i32⟩
  | .hbm, ⟨47, _⟩ => ⟨S4x4, .i32⟩
  | .hbm, ⟨48, _⟩ => ⟨S4x4, .i1⟩
  | .hbm, ⟨49, _⟩ => ⟨S4x4, .bf16⟩
  | .hbm, ⟨50, _⟩ => ⟨S64x64, .bf16⟩
  | .hbm, ⟨51, _⟩ => ⟨S4x1x4x1, .bf16⟩
  | .hbm, ⟨52, _⟩ => ⟨S1x64x1x64, .bf16⟩
  | .hbm, ⟨53, _⟩ => ⟨S4x64x4x64, .bf16⟩
  | .hbm, ⟨54, _⟩ => ⟨S4x64x4x64, .bf16⟩
  | .hbm, ⟨55, _⟩ => ⟨S4x64x4x64, .bf16⟩
  | .hbm, ⟨56, _⟩ => ⟨S256x256, .bf16⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S256x7168, .bf16⟩
  | .hbm, ⟨65, _⟩ => ⟨S1x7168, .f32⟩
  | .hbm, ⟨66, _⟩ => ⟨S256x7168, .i8⟩
  | .hbm, ⟨67, _⟩ => ⟨S256x7168, .fp8e4m3⟩
  | .hbm, ⟨68, _⟩ => ⟨S256x1, .f32⟩
  | .hbm, ⟨69, _⟩ => ⟨S256x1, .i32⟩
  | .hbm, ⟨70, _⟩ => ⟨S1x18432, .f32⟩
  | .hbm, ⟨71, _⟩ => ⟨S256x18432, .bf16⟩
  | .hbm, ⟨72, _⟩ => ⟨S2x128x18432, .bf16⟩
  | .hbm, ⟨73, _⟩ => ⟨S2x128x7168, .i8⟩
  | .hbm, ⟨74, _⟩ => ⟨S2x128, .f32⟩
  | .hbm, ⟨75, _⟩ => ⟨S2x128, .i32⟩
  | .local _ .vmem, ⟨0, _⟩ => ⟨S32x7168, .bf16⟩
  | .local _ .vmem, ⟨1, _⟩ => ⟨S32x7168, .bf16⟩
  | .local _ .vmem, ⟨2, _⟩ => ⟨S1x7168, .f32⟩
  | .local _ .vmem, ⟨3, _⟩ => ⟨S4x384x256, .bf16⟩
  | .local _ .vmem, ⟨4, _⟩ => ⟨S256x256, .bf16⟩
  | .local _ .vmem, ⟨5, _⟩ => ⟨S32x7168, .i8⟩
  | .local _ .vmem, ⟨6, _⟩ => ⟨S32x7168, .i8⟩
  | .local _ .vmem, ⟨7, _⟩ => ⟨S32x7168, .fp8e4m3⟩
  | .local _ .vmem, ⟨8, _⟩ => ⟨S32x7168, .fp8e4m3⟩
  | .local _ .vmem, ⟨9, _⟩ => ⟨S32x1, .f32⟩
  | .local _ .vmem, ⟨10, _⟩ => ⟨S32x1, .f32⟩
  | .local _ .vmem, ⟨11, _⟩ => ⟨S32x1, .i32⟩
  | .local _ .vmem, ⟨12, _⟩ => ⟨S32x1, .i32⟩
  | .local _ .vmem, ⟨13, _⟩ => ⟨S1152x128, .i32⟩
  | .local _ .vmem, ⟨14, _⟩ => ⟨S2176x128, .f32⟩
  | .local _ .vmem, ⟨15, _⟩ => ⟨S256x7168, .fp8e4m3⟩
  | .local _ .vmem, ⟨16, _⟩ => ⟨S3584x1024, .i8⟩
  | .local _ .vmem, ⟨17, _⟩ => ⟨S3584x1024, .i8⟩
  | .local _ .vmem, ⟨18, _⟩ => ⟨S256x1, .f32⟩
  | .local _ .vmem, ⟨19, _⟩ => ⟨S1x1024, .f32⟩
  | .local _ .vmem, ⟨20, _⟩ => ⟨S1x1024, .f32⟩
  | .local _ .vmem, ⟨21, _⟩ => ⟨S256x1024, .bf16⟩
  | .local _ .vmem, ⟨22, _⟩ => ⟨S256x1024, .bf16⟩
  | .local _ .smem, ⟨0, _⟩ => ⟨S1x1, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_c_2 : Ref sig .tc := ⟨.hbm, 20, rfl⟩
abbrev main_call3_v0 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_call4_v0 : Ref sig .tc := ⟨.hbm, 25, rfl⟩
abbrev main_v9 : Ref sig .tc := ⟨.hbm, 26, rfl⟩
abbrev main_c_4 : Ref sig .tc := ⟨.hbm, 27, rfl⟩
abbrev main_call5_v0 : Ref sig .tc := ⟨.hbm, 28, rfl⟩
abbrev main_v10 : Ref sig .tc := ⟨.hbm, 29, rfl⟩
abbrev main_v11 : Ref sig .tc := ⟨.hbm, 30, rfl⟩
abbrev main_c_5 : Ref sig .tc := ⟨.hbm, 31, rfl⟩
abbrev main_call6_v0 : Ref sig .tc := ⟨.hbm, 32, rfl⟩
abbrev main_v12 : Ref sig .tc := ⟨.hbm, 33, rfl⟩
abbrev main_c_6 : Ref sig .tc := ⟨.hbm, 34, rfl⟩
abbrev main_call7_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_7 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call8_v0 : Ref sig .tc := ⟨.hbm, 51, rfl⟩
abbrev main_call8_v1 : Ref sig .tc := ⟨.hbm, 52, rfl⟩
abbrev main_call8_v2 : Ref sig .tc := ⟨.hbm, 53, rfl⟩
abbrev main_call8_v3 : Ref sig .tc := ⟨.hbm, 54, rfl⟩
abbrev main_call8_v4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst : Ref sig .tc := ⟨.hbm, 59, rfl⟩
abbrev main_v30 : Ref sig .tc := ⟨.hbm, 60, rfl⟩
abbrev main_cst_8 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35_0 : Ref sig .tc := ⟨.hbm, 66, rfl⟩
abbrev main_v35_1 : Ref sig .tc := ⟨.hbm, 67, rfl⟩
abbrev main_v35_2 : Ref sig .tc := ⟨.hbm, 68, rfl⟩
abbrev main_v35_3 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x7168 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![18], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x7168 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3584x1024 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
abbrev S1152x2x128 : Shape := ⟨3, ![1152, 2, 128]⟩
abbrev S1152x1x128 : Shape := ⟨3, ![1152, 1, 128]⟩
abbrev S32x2x128 : Shape := ⟨3, ![32, 2, 128]⟩
abbrev S32x1x128 : Shape := ⟨3, ![32, 1, 128]⟩
  | .local _ .vmem, ⟨13, _⟩ => ⟨S1152x2x128, .bf16⟩
variable {F : FTy → Type} [FloatOps F]
-- ==== ReferenceIdeal.lean ====
abbrev S2x128x7168 : Shape := ⟨3, ![2, 128, 7168]⟩
abbrev S7168 : Shape := ⟨1, ![7168]⟩
abbrev S64x64 : Shape := ⟨2, ![64, 64]⟩
abbrev S112x112 : Shape := ⟨2, ![112, 112]⟩
abbrev S_ : Shape := ⟨0, ![]⟩
abbrev S3584x18432 : Shape := ⟨2, ![3584, 18432]⟩
abbrev S18432 : Shape := ⟨1, ![18432]⟩
abbrev S1x1x7168 : Shape := ⟨3, ![1, 1, 7168]⟩
abbrev S2x128x64x112 : Shape := ⟨4, ![2, 128, 64, 112]⟩
abbrev S2x128x112x64 : Shape := ⟨4, ![2, 128, 112, 64]⟩
abbrev S2x128 : Shape := ⟨2, ![2, 128]⟩
abbrev S2x128x1 : Shape := ⟨3, ![2, 128, 1]⟩
abbrev S2x128x3584 : Shape := ⟨3, ![2, 128, 3584]⟩
abbrev S2x128x18432 : Shape := ⟨3, ![2, 128, 18432]⟩
abbrev S1x1x18432 : Shape := ⟨3, ![1, 1, 18432]⟩

abbrev nBuf : Space → Nat
  | .hbm => 123
  | .vmem => 0
  | .smem => 0
  | _ => 0

abbrev bufTy : (tb : Table) → Fin (tcTables nBuf tb) → BufTy
  | .hbm, ⟨0, _⟩ => ⟨S2x128x7168, .bf16⟩
  | .hbm, ⟨1, _⟩ => ⟨S7168, .f32⟩
  | .hbm, ⟨2, _⟩ => ⟨S64x64, .bf16⟩
  | .hbm, ⟨3, _⟩ => ⟨S112x112, .bf16⟩
  | .hbm, ⟨4, _⟩ => ⟨S_, .f32⟩
  | .hbm, ⟨5, _⟩ => ⟨S3584x18432, .i8⟩
  | .hbm, ⟨6, _⟩ => ⟨S18432, .f32⟩
  | .hbm, ⟨7, _⟩ => ⟨S2x128x7168, .f32⟩
  | .hbm, ⟨8, _⟩ => ⟨S1x1x7168, .f32⟩
  | .hbm, ⟨9, _⟩ => ⟨S2x128x7168, .f32⟩
  | .hbm, ⟨10, _⟩ => ⟨S2x128x7168, .f32⟩
  | .hbm, ⟨11, _⟩ => ⟨S2x128x7168, .bf16⟩
  | .hbm, ⟨12, _⟩ => ⟨S2x128x64x112, .bf16⟩
  | .hbm, ⟨13, _⟩ => ⟨S2x128x64x112, .f32⟩
  | .hbm, ⟨14, _⟩ => ⟨S2x128x64x112, .bf16⟩
  | .hbm, ⟨15, _⟩ => ⟨S2x128x112x64, .f32⟩
  | .hbm, ⟨16, _⟩ => ⟨S2x128x64x112, .f32⟩
  | .hbm, ⟨17, _⟩ => ⟨S2x128x7168, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x128, .f32⟩
  | .hbm, ⟨26, _⟩ => ⟨S2x128, .f32⟩
  | .hbm, ⟨27, _⟩ => ⟨S2x128, .f32⟩
  | .hbm, ⟨28, _⟩ => ⟨S_, .f32⟩
  | .hbm, ⟨29, _⟩ => ⟨S2x128, .f32⟩
  | .hbm, ⟨30, _⟩ => ⟨S2x128, .f32⟩
  | .hbm, ⟨31, _⟩ => ⟨S2x128, .f32⟩
  | .hbm, ⟨32, _⟩ => ⟨S2x128, .i1⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | .hbm, ⟨37, _⟩ => ⟨S_, .f32⟩
  | .hbm, ⟨38, _⟩ => ⟨S_, .f32⟩
  | .hbm, ⟨39, _⟩ => ⟨S2x128, .f32⟩
  | .hbm, ⟨40, _⟩ => ⟨S2x128, .f32⟩
  | .hbm, ⟨41, _⟩ => ⟨S2x128, .f32⟩
  | .hbm, ⟨42, _⟩ => ⟨S2x128, .f32⟩
  | .hbm, ⟨43, _⟩ => ⟨S2x128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2x128, .f32⟩
  | .hbm, ⟨48, _⟩ => ⟨S2x128, .f32⟩
  | .hbm, ⟨49, _⟩ => ⟨S_, .f32⟩
  | .hbm, ⟨50, _⟩ => ⟨S2x128, .f32⟩
  | .hbm, ⟨51, _⟩ => ⟨S2x128, .f32⟩
  | .hbm, ⟨52, _⟩ => ⟨S2x128x1, .f32⟩
  | .hbm, ⟨53, _⟩ => ⟨S2x128x7168, .f32⟩
  | .hbm, ⟨54, _⟩ => ⟨S2x128x7168, .f32⟩
  | .hbm, ⟨55, _⟩ => ⟨S2x128x7168, .f32⟩
  | .hbm, ⟨56, _⟩ => ⟨S2x128x1, .f32⟩
  | .hbm, ⟨57, _⟩ => ⟨S2x128x7168, .f32⟩
  | .hbm, ⟨58, _⟩ => ⟨S2x128x7168, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2x128x7168, .f32⟩
  | .hbm, ⟨63, _⟩ => ⟨S2x128x7168, .f32⟩
  | .hbm, ⟨64, _⟩ => ⟨S_, .f32⟩
  | .hbm, ⟨65, _⟩ => ⟨S2x128x7168, .f32⟩
  | .hbm, ⟨66, _⟩ => ⟨S2x128x7168, .f32⟩
  | .hbm, ⟨67, _⟩ => ⟨S2x128x7168, .i32⟩
  | .hbm, ⟨68, _⟩ => ⟨S2x128x7168, .i8⟩
  | .hbm, ⟨69, _⟩ => ⟨S2x128, .i32⟩
  | .hbm, ⟨70, _⟩ => ⟨S2x128x7168, .i32⟩
  | .hbm, ⟨71, _⟩ => ⟨S2x128x7168, .bf16⟩
  | .hbm, ⟨72, _⟩ => ⟨S3584x18432, .i32⟩
  | .hbm, ⟨73, _⟩ => ⟨S_, .i32⟩
  | .hbm, ⟨74, _⟩ => ⟨S3584x18432, .i32⟩
  | .hbm, ⟨75, _⟩ => ⟨S3584x18432, .i32⟩
  | .hbm, ⟨76, _⟩ => ⟨S_, .i32⟩
  | .hbm, ⟨77, _⟩ => ⟨S3584x18432, .i32⟩
  | .hbm, ⟨78, _⟩ => ⟨S3584x18432, .i1⟩
  | .hbm, ⟨79, _⟩ => ⟨S3584x18432, .i32⟩
  | .hbm, ⟨80, _⟩ => ⟨S_, .i32⟩
  | .hbm, ⟨81, _⟩ => ⟨S3584x18432, .i32⟩
  | .hbm, ⟨82, _⟩ => ⟨S3584x18432, .i32⟩
  | .hbm, ⟨83, _⟩ => ⟨S3584x18432, .i32⟩
  | .hbm, ⟨84, _⟩ => ⟨S3584x18432, .bf16⟩
  | .hbm, ⟨85, _⟩ => ⟨S_, .i32⟩
  | .hbm, ⟨86, _⟩ => ⟨S3584x18432, .i32⟩
  | .hbm, ⟨87, _⟩ => ⟨S3584x18432, .i32⟩
  | .hbm, ⟨88, _⟩ => ⟨S_, .i32⟩
  | .hbm, ⟨89, _⟩ => ⟨S3584x18432, .i32⟩
  | .hbm, ⟨90, _⟩ => ⟨S3584x18432, .i1⟩
  | .hbm, ⟨91, _⟩ => ⟨S3584x18432, .i32⟩
  | .hbm, ⟨92, _⟩ => ⟨S_, .i32⟩
  | .hbm, ⟨93, _⟩ => ⟨S3584x18432, .i32⟩
  | .hbm, ⟨94, _⟩ => ⟨S3584x18432, .i32⟩
  | .hbm, ⟨95, _⟩ => ⟨S3584x18432, .i32⟩
  | .hbm, ⟨96, _⟩ => ⟨S3584x18432, .bf16⟩
  | .hbm, ⟨97, _⟩ => ⟨S2x128x3584, .bf16⟩
  | .hbm, ⟨98, _⟩ => ⟨S2x128x18432, .f32⟩
  | .hbm, ⟨99, _⟩ => ⟨S2x128x3584, .bf16⟩
  | .hbm, ⟨100, _⟩ => ⟨S2x128x18432, .f32⟩
  | .hbm, ⟨101, _⟩ => ⟨S2x128x18432, .f32⟩
  | .hbm, ⟨102, _⟩ => ⟨S3584x18432, .f32⟩
  | .hbm, ⟨103, _⟩ => ⟨S_, .f32⟩
  | .hbm, ⟨104, _⟩ => ⟨S18432, .f32⟩
  | .hbm, ⟨105, _⟩ => ⟨S3584x18432, .f32⟩
  | .hbm, ⟨106, _⟩ => ⟨S_, .f32⟩
  | .hbm, ⟨107, _⟩ => ⟨S18432, .f32⟩
  | .hbm, ⟨108, _⟩ => ⟨S18432, .f32⟩
  | .hbm, ⟨109, _⟩ => ⟨S2x128, .f32⟩
  | .hbm, ⟨110, _⟩ => ⟨S2x128x1, .f32⟩
  | .hbm, ⟨111, _⟩ => ⟨S1x1x18432, .f32⟩
  | .hbm, ⟨112, _⟩ => ⟨S2x128x18432, .f32⟩
  | .hbm, ⟨113, _⟩ => ⟨S2x128x18432, .f32⟩
  | .hbm, ⟨114, _⟩ => ⟨S2x128x18432, .f32⟩
  | .hbm, ⟨115, _⟩ => ⟨S2x128x18432, .f32⟩
  | .hbm, ⟨116, _⟩ => ⟨S2x128x1, .f32⟩
  | .hbm, ⟨117, _⟩ => ⟨S2x128x18432, .f32⟩
  | .hbm, ⟨118, _⟩ => ⟨S2x128x18432, .f32⟩
  | .hbm, ⟨119, _⟩ => ⟨S1x1x18432, .f32⟩
  | .hbm, ⟨120, _⟩ => ⟨S2x128x18432, .f32⟩
  | .hbm, ⟨121, _⟩ => ⟨S2x128x18432, .f32⟩
  | .hbm, ⟨122, _⟩ => ⟨S2x128x18432, .bf16⟩
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_cst_8 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_c_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_13 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]
-- ==== Proof.V1.lean ====
/- The kernel's run, its results read off the final memory beside its arguments. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with each result buffer at the contents the segments leave there and with
    the arguments as launched. -/
theorem run_values : θ_run defs (onTc (τ := τ) (main (F := F))) ⟨m, fun _ => 0, ρ⟩ (fun r => ∀ c : Dev nD,
      r.2.mem ((c.tc : Thread nD τ).loc main_v38) = W23 m ρ c (Proc.devRef .tc main_v38)
      ∧ r.2.mem ((c.tc : Thread nD τ).loc main_v39) = W23 m ρ c (Proc.devRef .tc main_v39)
      ∧ r.2.mem ((c.tc : Thread nD τ).loc main_v40) = W23 m ρ c (Proc.devRef .tc main_v40)
      ∧ r.2.mem ((c.tc : Thread nD τ).loc main_v41) = W23 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h _ => fun c =>
      ⟨h c _ (mem_uc main_v38 (by decide)),
       h c _ (mem_uc main_v39 (by decide)),
       h c _ (mem_uc main_v40 (by decide)),
       h c _ (mem_uc main_v41 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c)⟩)

end Cert.KernelIdeal.Val

end

end
-- ==== Proof.S1.lean ====
/- The first product of the transform, window by window: each column tile is a sum over its own 112 channels. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.FinSumWindow
public import Idealize.ShloMosaic.Lib.Pointwise.IndexVar

@[expose] public section

set_option maxRecDepth 16384

noncomputable section

namespace Cert.KernelIdeal.Val

open Idealize.ShloMosaic.FinSumWindow
open Cert.KernelIdeal Cert.KernelIdeal.Gen Idealize.ShloMosaic Idealize.ShloMosaic.TcCoe Idealize.SL.Sem

/-- Eight row blocks stacked: row `32 g + t` is row `t` of block `g`. -/
theorem cat8_apply {K : Nat} (v0 v1 v2 v3 v4 v5 v6 v7 : FVec Ideal ⟨2, ![32, K]⟩ .bf16) (h) (g : Fin 8) (t : Fin 32) (r : Fin 256) (k : Fin K)
    (hr : r.val = 32 * g.val + t.val) :
    concatenate (⟨2, ![256, K]⟩ : Shape) 0 [⟨⟨2, ![32, K]⟩, v0⟩, ⟨⟨2, ![32, K]⟩, v1⟩, ⟨⟨2, ![32, K]⟩, v2⟩, ⟨⟨2, ![32, K]⟩, v3⟩, ⟨⟨2, ![32, K]⟩, v4⟩, ⟨⟨2, ![32, K]⟩, v5⟩, ⟨⟨2, ![32, K]⟩, v6⟩, ⟨⟨2, ![32, K]⟩, v7⟩] h (ix2 r k)
      = (![v0, v1, v2, v3, v4, v5, v6, v7] g) (ix2 t k) := by
  pointwise
  have key : ∀ (v : FVec Ideal ⟨2, ![32, K]⟩ .bf16) (i : Fin 32), i.val = t.val → v (ix2 i k) = v (ix2 t k) := by
    intro v i h0
    rw [Fin.ext h0]
  obtain ⟨g, hg⟩ := g
  dsimp only at hr
  interval_cases g
  · rw [dif_pos (by omega)]; exact key v0 _ (by dsimp only; omega)
  · rw [dif_neg (by omega), dif_pos (by omega)]; exact key v1 _ (by dsimp only; omega)
  · rw [dif_neg (by omega), dif_neg (by omega), dif_pos (by omega)]; exact key v2 _ (by dsimp only; omega)
  · rw [dif_neg (by omega), dif_neg (by omega), dif_neg (by omega), dif_pos (by omega)]; exact key v3 _ (by dsimp only; omega)
  · rw [dif_neg (by omega), dif_neg (by omega), dif_neg (by omega), dif_neg (by omega), dif_pos (by omega)]
    exact key v4 _ (by dsimp only; omega)
  · rw [dif_neg (by omega), dif_neg (by omega), dif_neg (by omega), dif_neg (by omega), dif_neg (by omega), dif_pos (by omega)]
    exact key v5 _ (by dsimp only; omega)
  · rw [dif_neg (by omega), dif_neg (by omega), dif_neg (by omega), dif_neg (by omega), dif_neg (by omega), dif_neg (by omega),
      dif_pos (by omega)]
    exact key v6 _ (by dsimp only; omega)
  · rw [dif_neg (by omega), dif_neg (by omega), dif_neg (by omega), dif_neg (by omega), dif_neg (by omega), dif_neg (by omega),
      dif_neg (by omega)]
    exact key v7 _ (by dsimp only; omega)

/-- A product over 256 terms at an index. -/
theorem mm256_apply (lhs : FVec Ideal S256x256 .bf16) (rhs : FVec Ideal S256x256 .bf16) (r q : Fin 256) :
    matmul dot_S256x256_S256x256_S256x256_1_0_0_1_n_n none lhs rhs (constant S256x256 .f32 0x00000000#32) (ix2 r q)
      = ∑ k : Fin 256, lhs (ix2 r k) * rhs (ix2 k q) := by
  pointwise

/-- A product over 384 terms at an index. -/
theorem mm384_apply (lhs : FVec Ideal S256x384 .bf16) (rhs : FVec Ideal S384x256 .bf16) (r q : Fin 256) :
    matmul dot_S256x384_S384x256_S256x256_1_0_0_1_n_n none lhs rhs (constant S256x256 .f32 0x00000000#32) (ix2 r q)
      = ∑ k : Fin 384, lhs (ix2 r k) * rhs (ix2 k q) := by
  pointwise

/-- Two row blocks packed as pairs. -/
theorem pk_apply (o : Nat) (lo hi : FVec Ideal S256x128 .bf16) (hs) (hc) (hb) (t : Fin 32) (p : Fin 2) (l : Fin 128) (r : Fin 256) (hr : r.val = o + t.val) :
    interleaveRows S32x2x128 (shapeCast S32x1x128 (extractStridedSlice S32x128 ![o, 0] lo hs) hc)
      (shapeCast S32x1x128 (extractStridedSlice S32x128 ![o, 0] hi hs) hc) hb (ix3 t p l) = if p = 0 then lo (ix2 r l) else hi (ix2 r l) := by
  have := hs.2
  pointwise
  obtain ⟨r, hr'⟩ := r
  dsimp only at hr
  subst hr
  match p with
  | 0 => rfl
  | 1 => rfl

/-- A matrix read at natural-number coordinates, zero outside. -/
def at2 {a b : Nat} {f : FTy} (x : FVec Ideal ⟨2, ![a, b]⟩ f) (i j : Nat) : EReal :=
  if h : i < a ∧ j < b then x (ix2 ⟨i, h.1⟩ ⟨j, h.2⟩) else 0

/-- Reading a matrix by numbers within its bounds is reading it at that index. -/
theorem at2_ix {a b : Nat} {f : FTy} (x : FVec Ideal ⟨2, ![a, b]⟩ f) (i : Fin a) (j : Fin b) : at2 x i.val j.val = x (ix2 i j) := by
  rw [at2, dif_pos ⟨i.isLt, j.isLt⟩]

/-- Reading a matrix at an index is reading it by the index's numbers. -/
theorem at2_of {a b : Nat} {f : FTy} (x : FVec Ideal ⟨2, ![a, b]⟩ f) (i : Fin a) (j : Fin b) {m n : Nat} (hm : m = i.val) (hn : n = j.val) :
    x (ix2 i j) = at2 x m n := by
  subst hm hn; exact (at2_ix x i j).symm

/-- A slice of columns from `o` on, at an index. -/
theorem sl_apply {K : Nat} (x : FVec Ideal S32x7168 .bf16) (o : Nat) (h) (t : Fin 32) (k : Fin K) :
    extractStridedSlice (⟨2, ![32, K]⟩ : Shape) ![0, o] x h (ix2 t k) = at2 x t.val (o + k.val) := by
  have h2 := h.2 1
  have hk := k.isLt
  have h3 : o + K ≤ 7168 := h2
  rw [at2, dif_pos ⟨t.isLt, by omega⟩]
  pointwise

/-- A slice of columns from `o` on, the column number given. -/
theorem sl_apply' {K : Nat} (x : FVec Ideal S32x7168 .bf16) (o : Nat) (h) (t : Fin 32) (k : Fin K) {n : Nat} (hn : n = o + k.val) :
    extractStridedSlice (⟨2, ![32, K]⟩ : Shape) ![0, o] x h (ix2 t k) = at2 x t.val n := by
  rw [sl_apply, hn]

/-- The first channel of each window of 896 channels. -/
def wlo (j : Nat) : Nat := 128 * (224 * j / 128)

/-- Tile `i` of the first product: 112 channels of a token against a 112-row matrix. -/
def Yk (X P : Nat → Nat → EReal) (t i l : Nat) : EReal := ∑ p : Fin 112, X t (112 * i + p.val) * P p.val l

/-- The window products, given the layout of the window's right operand. -/
theorem window_sum {K : Nat} (X P : Nat → Nat → EReal) (B : Fin K → EReal) (lo c0 t i l : Nat) (hK : lo + 112 ≤ K)
    (hc : c0 + lo = 112 * i) (hB : ∀ k : Fin K, B k = if lo ≤ k.val ∧ k.val < lo + 112 then P (k.val - lo) l else 0) :
    ∑ k : Fin K, X t (c0 + k.val) * B k = Yk X P t i l := by
  rw [sum_window lo hK _ (W := 112) (fun k hk => ?_)]
  · refine Finset.sum_congr rfl fun p _ => ?_
    rw [hB, if_pos ⟨by simp, by simp⟩]
    congr 2
    · dsimp only; omega
    · dsimp only; omega
  · rw [hB, if_neg (by omega), mul_zero]

/-- The product of the first window at an index. -/
theorem k0_pay6_apply (v0 v3 v17) (g : Fin 8) (t : Fin 32) (q r : Fin 256) (hr : r.val = 32 * g.val + t.val) :
    k0_pay6 (F := Ideal) v0 v3 v17 (ix2 r q) = ∑ k : Fin 256, at2 (k0_pay5 (F := Ideal) v0 v3) t.val (896 * g.val + k.val) * v17 (ix3 0 k q) := by
  refine (mm256_apply _ _ r q).trans (Finset.sum_congr rfl fun k _ => ?_)
  congr 1
  · refine (cat8_apply _ _ _ _ _ _ _ _ _ g t r k hr).trans ?_
    match g with
    | 0 => refine sl_apply' (k0_pay5 (F := Ideal) v0 v3) 0 slices_S32x7168_o0_0_S32x256 t k (n := 896 * 0 + k.val) ?_; simp
    | 1 => refine sl_apply' (k0_pay5 (F := Ideal) v0 v3) 896 slices_S32x7168_o0_896_S32x256 t k (n := 896 * 1 + k.val) ?_; simp
    | 2 => refine sl_apply' (k0_pay5 (F := Ideal) v0 v3) 1792 slices_S32x7168_o0_1792_S32x256 t k (n := 896 * 2 + k.val) ?_; simp
    | 3 => refine sl_apply' (k0_pay5 (F := Ideal) v0 v3) 2688 slices_S32x7168_o0_2688_S32x256 t k (n := 896 * 3 + k.val) ?_; simp
    | 4 => refine sl_apply' (k0_pay5 (F := Ideal) v0 v3) 3584 slices_S32x7168_o0_3584_S32x256 t k (n := 896 * 4 + k.val) ?_; simp
    | 5 => refine sl_apply' (k0_pay5 (F := Ideal) v0 v3) 4480 slices_S32x7168_o0_4480_S32x256 t k (n := 896 * 5 + k.val) ?_; simp
    | 6 => refine sl_apply' (k0_pay5 (F := Ideal) v0 v3) 5376 slices_S32x7168_o0_5376_S32x256 t k (n := 896 * 6 + k.val) ?_; simp
    | 7 => refine sl_apply' (k0_pay5 (F := Ideal) v0 v3) 6272 slices_S32x7168_o0_6272_S32x256 t k (n := 896 * 7 + k.val) ?_; simp
  · pointwise

/-- The product of the second window at an index. -/
theorem k0_pay20_apply (v7 v64) (g : Fin 8) (t : Fin 32) (q r : Fin 256) (hr : r.val = 32 * g.val + t.val) :
    k0_pay20 (F := Ideal) v7 v64 (ix2 r q) = ∑ k : Fin 384, at2 v7 t.val (896 * g.val + 128 + k.val) * v64 (ix3 0 k q) := by
  refine (mm384_apply _ _ r q).trans (Finset.sum_congr rfl fun k _ => ?_)
  congr 1
  · refine (cat8_apply _ _ _ _ _ _ _ _ _ g t r k hr).trans ?_
    match g with
    | 0 => exact sl_apply' _ 128 slices_S32x7168_o0_128_S32x384 t k (by simp)
    | 1 => exact sl_apply' _ 1024 slices_S32x7168_o0_1024_S32x384 t k (by simp)
    | 2 => exact sl_apply' _ 1920 slices_S32x7168_o0_1920_S32x384 t k (by simp)
    | 3 => exact sl_apply' _ 2816 slices_S32x7168_o0_2816_S32x384 t k (by simp)
    | 4 => exact sl_apply' _ 3712 slices_S32x7168_o0_3712_S32x384 t k (by simp)
    | 5 => exact sl_apply' _ 4608 slices_S32x7168_o0_4608_S32x384 t k (by simp)
    | 6 => exact sl_apply' _ 5504 slices_S32x7168_o0_5504_S32x384 t k (by simp)
    | 7 => exact sl_apply' _ 6400 slices_S32x7168_o0_6400_S32x384 t k (by simp)
  · pointwise

/-- The product of the third window at an index. -/
theorem k0_pay35_apply (v7 v64) (g : Fin 8) (t : Fin 32) (q r : Fin 256) (hr : r.val = 32 * g.val + t.val) :
    k0_pay35 (F := Ideal) v7 v64 (ix2 r q) = ∑ k : Fin 384, at2 v7 t.val (896 * g.val + 384 + k.val) * v64 (ix3 0 k q) := by
  refine (mm384_apply _ _ r q).trans (Finset.sum_congr rfl fun k _ => ?_)
  congr 1
  · refine (cat8_apply _ _ _ _ _ _ _ _ _ g t r k hr).trans ?_
    match g with
    | 0 => exact sl_apply' _ 384 slices_S32x7168_o0_384_S32x384 t k (by simp)
    | 1 => exact sl_apply' _ 1280 slices_S32x7168_o0_1280_S32x384 t k (by simp)
    | 2 => exact sl_apply' _ 2176 slices_S32x7168_o0_2176_S32x384 t k (by simp)
    | 3 => exact sl_apply' _ 3072 slices_S32x7168_o0_3072_S32x384 t k (by simp)
    | 4 => exact sl_apply' _ 3968 slices_S32x7168_o0_3968_S32x384 t k (by simp)
    | 5 => exact sl_apply' _ 4864 slices_S32x7168_o0_4864_S32x384 t k (by simp)
    | 6 => exact sl_apply' _ 5760 slices_S32x7168_o0_5760_S32x384 t k (by simp)
    | 7 => exact sl_apply' _ 6656 slices_S32x7168_o0_6656_S32x384 t k (by simp)
  · pointwise

/-- The product of the fourth window at an index. -/
theorem k0_pay50_apply (v7 v64) (g : Fin 8) (t : Fin 32) (q r : Fin 256) (hr : r.val = 32 * g.val + t.val) :
    k0_pay50 (F := Ideal) v7 v64 (ix2 r q) = ∑ k : Fin 256, at2 v7 t.val (896 * g.val + 640 + k.val) * v64 (ix3 0 k q) := by
  refine (mm256_apply _ _ r q).trans (Finset.sum_congr rfl fun k _ => ?_)
  congr 1
  · refine (cat8_apply _ _ _ _ _ _ _ _ _ g t r k hr).trans ?_
    match g with
    | 0 => exact sl_apply' _ 640 slices_S32x7168_o0_640_S32x256 t k (by simp)
    | 1 => exact sl_apply' _ 1536 slices_S32x7168_o0_1536_S32x256 t k (by simp)
    | 2 => exact sl_apply' _ 2432 slices_S32x7168_o0_2432_S32x256 t k (by simp)
    | 3 => exact sl_apply' _ 3328 slices_S32x7168_o0_3328_S32x256 t k (by simp)
    | 4 => exact sl_apply' _ 4224 slices_S32x7168_o0_4224_S32x256 t k (by simp)
    | 5 => exact sl_apply' _ 5120 slices_S32x7168_o0_5120_S32x256 t k (by simp)
    | 6 => exact sl_apply' _ 6016 slices_S32x7168_o0_6016_S32x256 t k (by simp)
    | 7 => exact sl_apply' _ 6912 slices_S32x7168_o0_6912_S32x256 t k (by simp)
  · pointwise

end Cert.KernelIdeal.Val
end
end
-- ==== Proof.S1b.lean ====
/- The first scratch buffer of the transform: what its 32 strided stores leave, and what its loads read. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.S1

@[expose] public section

set_option maxRecDepth 16384

noncomputable section

namespace Cert.KernelIdeal.Val

open Cert.KernelIdeal Cert.KernelIdeal.Gen Idealize.ShloMosaic Idealize.ShloMosaic.TcCoe Idealize.SL.Sem

open View

variable (c : Dev nD) (arg1 : Memref sig .tc .vmem S32x7168 .bf16) (harg1 : arg1.IsWhole)
  (arg2 : Memref sig .tc .vmem S1x7168 .f32) (harg2 : arg2.IsWhole) (arg3 : Memref sig .tc .vmem S4x384x256 .bf16) (harg3 : arg3.IsWhole)
  (arg4 : Memref sig .tc .vmem S256x256 .bf16) (harg4 : arg4.IsWhole)
  (arg10 : Memref sig .tc .vmem S1152x2x128 .bf16)
  (x0 : Vec Ideal S32x7168 .bf16) (x1 : Vec Ideal S1x7168 .f32) (x2 : Vec Ideal S4x384x256 .bf16)

/-- The contents of the first scratch buffer: row `36 t + r`, half `h`, is tile `2 r + h` of token `t`. -/
def G1 (X P : Nat → Nat → EReal) (y : S1152x2x128.Idx) : EReal :=
  Yk X P ((y 0).val / 36) (2 * ((y 0).val % 36) + (y 1).val) (y 2).val

/-- One strided store of the first scratch buffer writes its block of `G1`. -/
theorem piece1 (lo hi : FVec Ideal S256x128 .bf16) (X P : Nat → Nat → EReal) (j : Nat)
    (hlo : ∀ (g : Fin 8) (t : Fin 32) (l : Fin 128) (r : Fin 256), r.val = 32 * g.val + t.val → lo (ix2 r l) = Yk X P t.val (8 * g.val + 2 * j) l.val)
    (hhi : ∀ (g : Fin 8) (t : Fin 32) (l : Fin 128) (r : Fin 256), r.val = 32 * g.val + t.val → hi (ix2 r l) = Yk X P t.val (8 * g.val + 2 * j + 1) l.val)
    (g : Fin 8) (hj : j < 4) (o : Nat) (ho : o = 4 * g.val + j) (o2 : Nat) (ho2 : o2 = 32 * g.val) (hs) (hc) (hb) (inb) (spos) (x : S32x2x128.Idx) :
    interleaveRows S32x2x128 (shapeCast S32x1x128 (extractStridedSlice S32x128 ![o2, 0] lo hs) hc)
      (shapeCast S32x1x128 (extractStridedSlice S32x128 ![o2, 0] hi hs) hc) hb x
    = G1 X P ((⟨⟨![o, 0, 0], S32x2x128.size, ![36, 1, 1], inb⟩, spos⟩ : Rect S1152x2x128).emb x) := by
  idx_vars x
  obtain ⟨t, ht'⟩ : ∃ t : Fin 32, t = x0 := ⟨_, rfl⟩
  obtain ⟨p, hp'⟩ : ∃ t : Fin 2, t = x1 := ⟨_, rfl⟩
  obtain ⟨l, hl'⟩ : ∃ t : Fin 128, t = x2 := ⟨_, rfl⟩
  rw [← ht', ← hp', ← hl']
  have hg := g.isLt
  have ht := t.isLt
  rw [pk_apply o2 lo hi hs hc hb t p l ⟨32 * g.val + t.val, by omega⟩ (by simp only [ho2])]
  have e0 : ((⟨⟨![o, 0, 0], S32x2x128.size, ![36, 1, 1], inb⟩, spos⟩ : Rect S1152x2x128).emb (ix3 t p l) 0).val = o + 36 * t.val := rfl
  have e1 : ((⟨⟨![o, 0, 0], S32x2x128.size, ![36, 1, 1], inb⟩, spos⟩ : Rect S1152x2x128).emb (ix3 t p l) 1).val = 0 + 1 * p.val := rfl
  have e2 : ((⟨⟨![o, 0, 0], S32x2x128.size, ![36, 1, 1], inb⟩, spos⟩ : Rect S1152x2x128).emb (ix3 t p l) 2).val = 0 + 1 * l.val := rfl
  unfold G1
  rw [e0, e1, e2, show (o + 36 * t.val) / 36 = t.val by omega, show (o + 36 * t.val) % 36 = 4 * g.val + j by omega]
  match p with
  | 0 => rw [if_pos rfl, hlo g t l _ rfl]; congr 1 <;> simp <;> omega
  | 1 => rw [if_neg (by decide), hhi g t l _ rfl]; congr 1 <;> simp <;> omega

/-- The load of the token block. -/
theorem ld_x0 : View.readAt (Elt Ideal) arg1.view (Rect.unit (s := S32x7168) ![0, 0] S32x7168.size inb_S32x7168_S32x7168_0_0).toLoadRect (harg1.unread x0) = x0 := by
  rw [View.readAt_eq_ld, harg1.read_unread]
  funext y
  idx_vars y
  rw [View.ld_apply]
  congr 1
  funext a
  match a with
  | 0 => exact Fin.ext (by show 0 + 1 * y0.val = y0.val; omega)
  | 1 => exact Fin.ext (by show 0 + 1 * y1.val = y1.val; omega)

/-- The load of the channel scales. -/
theorem ld_x1 : View.readAt (Elt Ideal) arg2.view (Rect.unit (s := S1x7168) ![0, 0] S1x7168.size inb_S1x7168_S1x7168_0_0).toLoadRect (harg2.unread x1) = x1 := by
  rw [View.readAt_eq_ld, harg2.read_unread]
  funext y
  idx_vars y
  rw [View.ld_apply]
  congr 1
  funext a
  match a with
  | 0 => exact Fin.ext (by show 0 + 1 * y0.val = y0.val; omega)
  | 1 => exact Fin.ext (by show 0 + 1 * y1.val = y1.val; omega)

/-- The load of one window's right operand. -/
theorem ld_x2 {K : Nat} (j : Nat) (inb) (k : Fin K) (q : Fin 256) (hj : j < 4) (hk : k.val < 384) :
    View.readAt (Elt Ideal) arg3.view (Rect.unit (s := S4x384x256) ![j, 0, 0] ((⟨3, ![1, K, 256]⟩ : Shape).size) inb).toLoadRect (harg3.unread x2) (ix3 0 k q)
      = x2 (ix3 ⟨j, hj⟩ ⟨k.val, hk⟩ q) := by
  rw [View.readAt_eq_ld, harg3.read_unread, View.ld_apply]
  congr 1
  funext a
  match a with
  | 0 => exact Fin.ext (by show j + 1 * 0 = j; omega)
  | 1 => exact Fin.ext (by show 0 + 1 * k.val = k.val; omega)
  | 2 => exact Fin.ext (by show 0 + 1 * q.val = q.val; omega)

/-- The layout of the four windows' right operands: tile `i = 2 j + h` of a group of 896 channels occupies the rows from
`112 i` on, counted from the window's first channel, and the columns of half `h`. -/
def HX2 (P : Nat → Nat → EReal) (x2 : Vec Ideal S4x384x256 .bf16) : Prop :=
  ∀ (j : Fin 4) (k : Fin 384) (h : Fin 2) (l : Fin 128) (q : Fin 256), q.val = 128 * h.val + l.val →
    x2 (ix3 j k q) = if 112 * (2 * j.val + h.val) - wlo j.val ≤ k.val ∧ k.val < 112 * (2 * j.val + h.val) - wlo j.val + 112
      then P (k.val - (112 * (2 * j.val + h.val) - wlo j.val)) l.val else 0

variable {P : Nat → Nat → EReal} {x2}

/-- First window, left half: column tile 0 of each group. -/
theorem r_1_apply (hx2 : HX2 P x2) (g : Fin 8) (t : Fin 32) (l : Fin 128) (r : Fin 256) (hr : r.val = 32 * g.val + t.val) :
    kernelRun0_A.sl.r_1 (F := Ideal) c arg1 harg1 arg2 harg2 arg3 harg3 x0 x1 x2 (ix2 r l) = Yk (at2 (k0_pay5 (F := Ideal) x0 x1)) P t.val (8 * g.val + 2 * 0) l.val := by
  have e : kernelRun0_A.sl.r_1 (F := Ideal) c arg1 harg1 arg2 harg2 arg3 harg3 x0 x1 x2 (ix2 r l)
      = k0_pay6 (F := Ideal) (View.readAt (Elt Ideal) arg1.view (Rect.unit (s := S32x7168) ![0, 0] S32x7168.size inb_S32x7168_S32x7168_0_0).toLoadRect (harg1.unread x0)) (View.readAt (Elt Ideal) arg2.view (Rect.unit (s := S1x7168) ![0, 0] S1x7168.size inb_S1x7168_S1x7168_0_0).toLoadRect (harg2.unread x1)) (View.readAt (Elt Ideal) arg3.view (Rect.unit (s := S4x384x256) ![0, 0, 0] S1x256x256.size inb_S4x384x256_S1x256x256_0_0_0).toLoadRect (harg3.unread x2)) (ix2 r ⟨0 + l.val, by omega⟩) := by
    unfold kernelRun0_A.sl.r_1 k0_pay7
    pointwise
  rw [e, ld_x0, ld_x1, k0_pay6_apply _ _ _ g t _ r hr]
  refine window_sum _ P _ (0 - wlo 0) _ t.val _ l.val (by decide) (by rw [show 0 - wlo 0 = 0 from by decide]; omega) fun k => ?_
  rw [ld_x2 arg3 harg3 x2 0 _ k _ (by omega) (by omega)]
  exact hx2 ⟨0, by decide⟩ ⟨k.val, by omega⟩ 0 l _ rfl

/-- First window, right half: column tile 1 of each group. -/
theorem r_2_apply (hx2 : HX2 P x2) (g : Fin 8) (t : Fin 32) (l : Fin 128) (r : Fin 256) (hr : r.val = 32 * g.val + t.val) :
    kernelRun0_A.sl.r_2 (F := Ideal) c arg1 harg1 arg2 harg2 arg3 harg3 x0 x1 x2 (ix2 r l) = Yk (at2 (k0_pay5 (F := Ideal) x0 x1)) P t.val (8 * g.val + 2 * 0 + 1) l.val := by
  have e : kernelRun0_A.sl.r_2 (F := Ideal) c arg1 harg1 arg2 harg2 arg3 harg3 x0 x1 x2 (ix2 r l)
      = k0_pay6 (F := Ideal) (View.readAt (Elt Ideal) arg1.view (Rect.unit (s := S32x7168) ![0, 0] S32x7168.size inb_S32x7168_S32x7168_0_0).toLoadRect (harg1.unread x0)) (View.readAt (Elt Ideal) arg2.view (Rect.unit (s := S1x7168) ![0, 0] S1x7168.size inb_S1x7168_S1x7168_0_0).toLoadRect (harg2.unread x1)) (View.readAt (Elt Ideal) arg3.view (Rect.unit (s := S4x384x256) ![0, 0, 0] S1x256x256.size inb_S4x384x256_S1x256x256_0_0_0).toLoadRect (harg3.unread x2)) (ix2 r ⟨128 + l.val, by omega⟩) := by
    unfold kernelRun0_A.sl.r_2 k0_pay8
    pointwise
  rw [e, ld_x0, ld_x1, k0_pay6_apply _ _ _ g t _ r hr]
  refine window_sum _ P _ (112 - wlo 0) _ t.val _ l.val (by decide) (by rw [show 112 - wlo 0 = 112 from by decide]; omega) fun k => ?_
  rw [ld_x2 arg3 harg3 x2 0 _ k _ (by omega) (by omega)]
  exact hx2 ⟨0, by decide⟩ ⟨k.val, by omega⟩ 1 l _ rfl

/-- Second window, left half: column tile 2 of each group. -/
theorem r_4_apply (hx2 : HX2 P x2) (g : Fin 8) (t : Fin 32) (l : Fin 128) (r : Fin 256) (hr : r.val = 32 * g.val + t.val) :
    kernelRun0_A.sl.r_4 (F := Ideal) c arg1 harg1 arg2 harg2 arg3 harg3 x0 x1 x2 (ix2 r l) = Yk (at2 (k0_pay5 (F := Ideal) x0 x1)) P t.val (8 * g.val + 2 * 1) l.val := by
  have e : kernelRun0_A.sl.r_4 (F := Ideal) c arg1 harg1 arg2 harg2 arg3 harg3 x0 x1 x2 (ix2 r l)
      = k0_pay20 (F := Ideal) (k0_pay5 (F := Ideal) (View.readAt (Elt Ideal) arg1.view (Rect.unit (s := S32x7168) ![0, 0] S32x7168.size inb_S32x7168_S32x7168_0_0).toLoadRect (harg1.unread x0)) (View.readAt (Elt Ideal) arg2.view (Rect.unit (s := S1x7168) ![0, 0] S1x7168.size inb_S1x7168_S1x7168_0_0).toLoadRect (harg2.unread x1))) (View.readAt (Elt Ideal) arg3.view (Rect.unit (s := S4x384x256) ![1, 0, 0] S1x384x256.size inb_S4x384x256_S1x384x256_1_0_0).toLoadRect (harg3.unread x2)) (ix2 r ⟨0 + l.val, by omega⟩) := by
    unfold kernelRun0_A.sl.r_4 k0_pay21 kernelRun0_A.sl.r
    pointwise
  rw [e, ld_x0, ld_x1, k0_pay20_apply _ _ g t _ r hr]
  refine window_sum _ P _ (224 - wlo 1) _ t.val _ l.val (by decide) (by rw [show 224 - wlo 1 = 96 from by decide]; omega) fun k => ?_
  rw [ld_x2 arg3 harg3 x2 1 _ k _ (by omega) (by omega)]
  exact hx2 ⟨1, by decide⟩ ⟨k.val, by omega⟩ 0 l _ rfl

/-- Second window, right half: column tile 3 of each group. -/
theorem r_5_apply (hx2 : HX2 P x2) (g : Fin 8) (t : Fin 32) (l : Fin 128) (r : Fin 256) (hr : r.val = 32 * g.val + t.val) :
    kernelRun0_A.sl.r_5 (F := Ideal) c arg1 harg1 arg2 harg2 arg3 harg3 x0 x1 x2 (ix2 r l) = Yk (at2 (k0_pay5 (F := Ideal) x0 x1)) P t.val (8 * g.val + 2 * 1 + 1) l.val := by
  have e : kernelRun0_A.sl.r_5 (F := Ideal) c arg1 harg1 arg2 harg2 arg3 harg3 x0 x1 x2 (ix2 r l)
      = k0_pay20 (F := Ideal) (k0_pay5 (F := Ideal) (View.readAt (Elt Ideal) arg1.view (Rect.unit (s := S32x7168) ![0, 0] S32x7168.size inb_S32x7168_S32x7168_0_0).toLoadRect (harg1.unread x0)) (View.readAt (Elt Ideal) arg2.view (Rect.unit (s := S1x7168) ![0, 0] S1x7168.size inb_S1x7168_S1x7168_0_0).toLoadRect (harg2.unread x1))) (View.readAt (Elt Ideal) arg3.view (Rect.unit (s := S4x384x256) ![1, 0, 0] S1x384x256.size inb_S4x384x256_S1x384x256_1_0_0).toLoadRect (harg3.unread x2)) (ix2 r ⟨128 + l.val, by omega⟩) := by
    unfold kernelRun0_A.sl.r_5 k0_pay22 kernelRun0_A.sl.r
    pointwise
  rw [e, ld_x0, ld_x1, k0_pay20_apply _ _ g t _ r hr]
  refine window_sum _ P _ (336 - wlo 1) _ t.val _ l.val (by decide) (by rw [show 336 - wlo 1 = 208 from by decide]; omega) fun k => ?_
  rw [ld_x2 arg3 harg3 x2 1 _ k _ (by omega) (by omega)]
  exact hx2 ⟨1, by decide⟩ ⟨k.val, by omega⟩ 1 l _ rfl

/-- Third window, left half: column tile 4 of each group. -/
theorem r_8_apply (hx2 : HX2 P x2) (g : Fin 8) (t : Fin 32) (l : Fin 128) (r : Fin 256) (hr : r.val = 32 * g.val + t.val) :
    kernelRun0_A.sl.r_8 (F := Ideal) c arg1 harg1 arg2 harg2 arg3 harg3 x0 x1 x2 (ix2 r l) = Yk (at2 (k0_pay5 (F := Ideal) x0 x1)) P t.val (8 * g.val + 2 * 2) l.val := by
  have e : kernelRun0_A.sl.r_8 (F := Ideal) c arg1 harg1 arg2 harg2 arg3 harg3 x0 x1 x2 (ix2 r l)
      = k0_pay35 (F := Ideal) (k0_pay5 (F := Ideal) (View.readAt (Elt Ideal) arg1.view (Rect.unit (s := S32x7168) ![0, 0] S32x7168.size inb_S32x7168_S32x7168_0_0).toLoadRect (harg1.unread x0)) (View.readAt (Elt Ideal) arg2.view (Rect.unit (s := S1x7168) ![0, 0] S1x7168.size inb_S1x7168_S1x7168_0_0).toLoadRect (harg2.unread x1))) (View.readAt (Elt Ideal) arg3.view (Rect.unit (s := S4x384x256) ![2, 0, 0] S1x384x256.size inb_S4x384x256_S1x384x256_2_0_0).toLoadRect (harg3.unread x2)) (ix2 r ⟨0 + l.val, by omega⟩) := by
    unfold kernelRun0_A.sl.r_8 k0_pay36 kernelRun0_A.sl.r
    pointwise
  rw [e, ld_x0, ld_x1, k0_pay35_apply _ _ g t _ r hr]
  refine window_sum _ P _ (448 - wlo 2) _ t.val _ l.val (by decide) (by rw [show 448 - wlo 2 = 64 from by decide]; omega) fun k => ?_
  rw [ld_x2 arg3 harg3 x2 2 _ k _ (by omega) (by omega)]
  exact hx2 ⟨2, by decide⟩ ⟨k.val, by omega⟩ 0 l _ rfl

/-- Third window, right half: column tile 5 of each group. -/
theorem r_9_apply (hx2 : HX2 P x2) (g : Fin 8) (t : Fin 32) (l : Fin 128) (r : Fin 256) (hr : r.val = 32 * g.val + t.val) :
    kernelRun0_A.sl.r_9 (F := Ideal) c arg1 harg1 arg2 harg2 arg3 harg3 x0 x1 x2 (ix2 r l) = Yk (at2 (k0_pay5 (F := Ideal) x0 x1)) P t.val (8 * g.val + 2 * 2 + 1) l.val := by
  have e : kernelRun0_A.sl.r_9 (F := Ideal) c arg1 harg1 arg2 harg2 arg3 harg3 x0 x1 x2 (ix2 r l)
      = k0_pay35 (F := Ideal) (k0_pay5 (F := Ideal) (View.readAt (Elt Ideal) arg1.view (Rect.unit (s := S32x7168) ![0, 0] S32x7168.size inb_S32x7168_S32x7168_0_0).toLoadRect (harg1.unread x0)) (View.readAt (Elt Ideal) arg2.view (Rect.unit (s := S1x7168) ![0, 0] S1x7168.size inb_S1x7168_S1x7168_0_0).toLoadRect (harg2.unread x1))) (View.readAt (Elt Ideal) arg3.view (Rect.unit (s := S4x384x256) ![2, 0, 0] S1x384x256.size inb_S4x384x256_S1x384x256_2_0_0).toLoadRect (harg3.unread x2)) (ix2 r ⟨128 + l.val, by omega⟩) := by
    unfold kernelRun0_A.sl.r_9 k0_pay37 kernelRun0_A.sl.r
    pointwise
  rw [e, ld_x0, ld_x1, k0_pay35_apply _ _ g t _ r hr]
  refine window_sum _ P _ (560 - wlo 2) _ t.val _ l.val (by decide) (by rw [show 560 - wlo 2 = 176 from by decide]; omega) fun k => ?_
  rw [ld_x2 arg3 harg3 x2 2 _ k _ (by omega) (by omega)]
  exact hx2 ⟨2, by decide⟩ ⟨k.val, by omega⟩ 1 l _ rfl

/-- Fourth window, left half: column tile 6 of each group. -/
theorem r_13_apply (hx2 : HX2 P x2) (g : Fin 8) (t : Fin 32) (l : Fin 128) (r : Fin 256) (hr : r.val = 32 * g.val + t.val) :
    kernelRun0_A.sl.r_13 (F := Ideal) c arg1 harg1 arg2 harg2 arg3 harg3 x0 x1 x2 (ix2 r l) = Yk (at2 (k0_pay5 (F := Ideal) x0 x1)) P t.val (8 * g.val + 2 * 3) l.val := by
  have e : kernelRun0_A.sl.r_13 (F := Ideal) c arg1 harg1 arg2 harg2 arg3 harg3 x0 x1 x2 (ix2 r l)
      = k0_pay50 (F := Ideal) (k0_pay5 (F := Ideal) (View.readAt (Elt Ideal) arg1.view (Rect.unit (s := S32x7168) ![0, 0] S32x7168.size inb_S32x7168_S32x7168_0_0).toLoadRect (harg1.unread x0)) (View.readAt (Elt Ideal) arg2.view (Rect.unit (s := S1x7168) ![0, 0] S1x7168.size inb_S1x7168_S1x7168_0_0).toLoadRect (harg2.unread x1))) (View.readAt (Elt Ideal) arg3.view (Rect.unit (s := S4x384x256) ![3, 0, 0] S1x256x256.size inb_S4x384x256_S1x256x256_3_0_0).toLoadRect (harg3.unread x2)) (ix2 r ⟨0 + l.val, by omega⟩) := by
    unfold kernelRun0_A.sl.r_13 k0_pay51 kernelRun0_A.sl.r
    pointwise
  rw [e, ld_x0, ld_x1, k0_pay50_apply _ _ g t _ r hr]
  refine window_sum _ P _ (672 - wlo 3) _ t.val _ l.val (by decide) (by rw [show 672 - wlo 3 = 32 from by decide]; omega) fun k => ?_
  rw [ld_x2 arg3 harg3 x2 3 _ k _ (by omega) (by omega)]
  exact hx2 ⟨3, by decide⟩ ⟨k.val, by omega⟩ 0 l _ rfl

/-- Fourth window, right half: column tile 7 of each group. -/
theorem r_14_apply (hx2 : HX2 P x2) (g : Fin 8) (t : Fin 32) (l : Fin 128) (r : Fin 256) (hr : r.val = 32 * g.val + t.val) :
    kernelRun0_A.sl.r_14 (F := Ideal) c arg1 harg1 arg2 harg2 arg3 harg3 x0 x1 x2 (ix2 r l) = Yk (at2 (k0_pay5 (F := Ideal) x0 x1)) P t.val (8 * g.val + 2 * 3 + 1) l.val := by
  have e : kernelRun0_A.sl.r_14 (F := Ideal) c arg1 harg1 arg2 harg2 arg3 harg3 x0 x1 x2 (ix2 r l)
      = k0_pay50 (F := Ideal) (k0_pay5 (F := Ideal) (View.readAt (Elt Ideal) arg1.view (Rect.unit (s := S32x7168) ![0, 0] S32x7168.size inb_S32x7168_S32x7168_0_0).toLoadRect (harg1.unread x0)) (View.readAt (Elt Ideal) arg2.view (Rect.unit (s := S1x7168) ![0, 0] S1x7168.size inb_S1x7168_S1x7168_0_0).toLoadRect (harg2.unread x1))) (View.readAt (Elt Ideal) arg3.view (Rect.unit (s := S4x384x256) ![3, 0, 0] S1x256x256.size inb_S4x384x256_S1x256x256_3_0_0).toLoadRect (harg3.unread x2)) (ix2 r ⟨128 + l.val, by omega⟩) := by
    unfold kernelRun0_A.sl.r_14 k0_pay52 kernelRun0_A.sl.r
    pointwise
  rw [e, ld_x0, ld_x1, k0_pay50_apply _ _ g t _ r hr]
  refine window_sum _ P _ (784 - wlo 3) _ t.val _ l.val (by decide) (by rw [show 784 - wlo 3 = 144 from by decide]; omega) fun k => ?_
  rw [ld_x2 arg3 harg3 x2 3 _ k _ (by omega) (by omega)]
  exact hx2 ⟨3, by decide⟩ ⟨k.val, by omega⟩ 1 l _ rfl

/-- All 32 strided stores write the one array `G1`. -/
theorem s1_pieces (hx2 : HX2 P x2) :
    View.PiecesOf (G1 (at2 (k0_pay5 (F := Ideal) x0 x1)) P) (kernelRun0_A.sl.HS0_32 (F := Ideal) c arg1 harg1 arg2 harg2 arg3 harg3 x0 x1 x2) :=
  ⟨fun x => piece1 (kernelRun0_A.sl.r_13 c arg1 harg1 arg2 harg2 arg3 harg3 x0 x1 x2) (kernelRun0_A.sl.r_14 c arg1 harg1 arg2 harg2 arg3 harg3 x0 x1 x2) _ P 3 (r_13_apply c arg1 harg1 arg2 harg2 arg3 harg3 x0 x1 hx2) (r_14_apply c arg1 harg1 arg2 harg2 arg3 harg3 x0 x1 hx2) 7 (by decide) 31 rfl 224 rfl slices_S256x128_o224_0_S32x128 shapeCasts_S32x128_S32x1x128 bitcasts_S32x2x128_w16_S32x1x128_w32 inb_S1152x2x128_S32x2x128_31_0_0_s_36_1_1 spos_36_1_1 x,
   fun x => piece1 (kernelRun0_A.sl.r_13 c arg1 harg1 arg2 harg2 arg3 harg3 x0 x1 x2) (kernelRun0_A.sl.r_14 c arg1 harg1 arg2 harg2 arg3 harg3 x0 x1 x2) _ P 3 (r_13_apply c arg1 harg1 arg2 harg2 arg3 harg3 x0 x1 hx2) (r_14_apply c arg1 harg1 arg2 harg2 arg3 harg3 x0 x1 hx2) 6 (by decide) 27 rfl 192 rfl slices_S256x128_o192_0_S32x128 shapeCasts_S32x128_S32x1x128 bitcasts_S32x2x128_w16_S32x1x128_w32 inb_S1152x2x128_S32x2x128_27_0_0_s_36_1_1 spos_36_1_1 x,
   fun x => piece1 (kernelRun0_A.sl.r_13 c arg1 harg1 arg2 harg2 arg3 harg3 x0 x1 x2) (kernelRun0_A.sl.r_14 c arg1 harg1 arg2 harg2 arg3 harg3 x0 x1 x2) _ P 3 (r_13_apply c arg1 harg1 arg2 harg2 arg3 harg3 x0 x1 hx2) (r_14_apply c arg1 harg1 arg2 harg2 arg3 harg3 x0 x1 hx2) 5 (by decide) 23 rfl 160 rfl slices_S256x128_o160_0_S32x128 shapeCasts_S32x128_S32x1x128 bitcasts_S32x2x128_w16_S32x1x128_w32 inb_S1152x2x128_S32x2x128_23_0_0_s_36_1_1 spos_36_1_1 x,
   fun x => piece1 (kernelRun0_A.sl.r_13 c arg1 harg1 arg2 harg2 arg3 harg3 x0 x1 x2) (kernelRun0_A.sl.r_14 c arg1 harg1 arg2 harg2 arg3 harg3 x0 x1 x2) _ P 3 (r_13_apply c arg1 harg1 arg2 harg2 arg3 harg3 x0 x1 hx2) (r_14_apply c arg1 harg1 arg2 harg2 arg3 harg3 x0 x1 hx2) 4 (by decide) 19 rfl 128 rfl slices_S256x128_o128_0_S32x128 shapeCasts_S32x128_S32x1x128 bitcasts_S32x2x128_w16_S32x1x128_w32 inb_S1152x2x128_S32x2x128_19_0_0_s_36_1_1 spos_36_1_1 x,
   fun x => piece1 (kernelRun0_A.sl.r_13 c arg1 harg1 arg2 harg2 arg3 harg3 x0 x1 x2) (kernelRun0_A.sl.r_14 c arg1 harg1 arg2 harg2 arg3 harg3 x0 x1 x2) _ P 3 (r_13_apply c arg1 harg1 arg2 harg2 arg3 harg3 x0 x1 hx2) (r_14_apply c arg1 harg1 arg2 harg2 arg3 harg3 x0 x1 hx2) 3 (by decide) 15 rfl 96 rfl slices_S256x128_o96_0_S32x128 shapeCasts_S32x128_S32x1x128 bitcasts_S32x2x128_w16_S32x1x128_w32 inb_S1152x2x128_S32x2x128_15_0_0_s_36_1_1 spos_36_1_1 x,
   fun x => piece1 (kernelRun0_A.sl.r_13 c arg1 harg1 arg2 harg2 arg3 harg3 x0 x1 x2) (kernelRun0_A.sl.r_14 c arg1 harg1 arg2 harg2 arg3 harg3 x0 x1 x2) _ P 3 (r_13_apply c arg1 harg1 arg2 harg2 arg3 harg3 x0 x1 hx2) (r_14_apply c arg1 harg1 arg2 harg2 arg3 harg3 x0 x1 hx2) 2 (by decide) 11 rfl 64 rfl slices_S256x128_o64_0_S32x128 shapeCasts_S32x128_S32x1x128 bitcasts_S32x2x128_w16_S32x1x128_w32 inb_S1152x2x128_S32x2x128_11_0_0_s_36_1_1 spos_36_1_1 x,
   fun x => piece1 (kernelRun0_A.sl.r_13 c arg1 harg1 arg2 harg2 arg3 harg3 x0 x1 x2) (kernelRun0_A.sl.r_14 c arg1 harg1 arg2 harg2 arg3 harg3 x0 x1 x2) _ P 3 (r_13_apply c arg1 harg1 arg2 harg2 arg3 harg3 x0 x1 hx2) (r_14_apply c arg1 harg1 arg2 harg2 arg3 harg3 x0 x1 hx2) 1 (by decide) 7 rfl 32 rfl slices_S256x128_o32_0_S32x128 shapeCasts_S32x128_S32x1x128 bitcasts_S32x2x128_w16_S32x1x128_w32 inb_S1152x2x128_S32x2x128_7_0_0_s_36_1_1 spos_36_1_1 x,
   fun x => piece1 (kernelRun0_A.sl.r_13 c arg1 harg1 arg2 harg2 arg3 harg3 x0 x1 x2) (kernelRun0_A.sl.r_14 c arg1 harg1 arg2 harg2 arg3 harg3 x0 x1 x2) _ P 3 (r_13_apply c arg1 harg1 arg2 harg2 arg3 harg3 x0 x1 hx2) (r_14_apply c arg1 harg1 arg2 harg2 arg3 harg3 x0 x1 hx2) 0 (by decide) 3 rfl 0 rfl slices_S256x128_o0_0_S32x128 shapeCasts_S32x128_S32x1x128 bitcasts_S32x2x128_w16_S32x1x128_w32 inb_S1152x2x128_S32x2x128_3_0_0_s_36_1_1 spos_36_1_1 x,
   fun x => piece1 (kernelRun0_A.sl.r_8 c arg1 harg1 arg2 harg2 arg3 harg3 x0 x1 x2) (kernelRun0_A.sl.r_9 c arg1 harg1 arg2 harg2 arg3 harg3 x0 x1 x2) _ P 2 (r_8_apply c arg1 harg1 arg2 harg2 arg3 harg3 x0 x1 hx2) (r_9_apply c arg1 harg1 arg2 harg2 arg3 harg3 x0 x1 hx2) 7 (by decide) 30 rfl 224 rfl slices_S256x128_o224_0_S32x128 shapeCasts_S32x128_S32x1x128 bitcasts_S32x2x128_w16_S32x1x128_w32 inb_S1152x2x128_S32x2x128_30_0_0_s_36_1_1 spos_36_1_1 x,
   fun x => piece1 (kernelRun0_A.sl.r_8 c arg1 harg1 arg2 harg2 arg3 harg3 x0 x1 x2) (kernelRun0_A.sl.r_9 c arg1 harg1 arg2 harg2 arg3 harg3 x0 x1 x2) _ P 2 (r_8_apply c arg1 harg1 arg2 harg2 arg3 harg3 x0 x1 hx2) (r_9_apply c arg1 harg1 arg2 harg2 arg3 harg3 x0 x1 hx2) 6 (by decide) 26 rfl 192 rfl slices_S256x128_o192_0_S32x128 shapeCasts_S32x128_S32x1x128 bitcasts_S32x2x128_w16_S32x1x128_w32 inb_S1152x2x128_S32x2x128_26_0_0_s_36_1_1 spos_36_1_1 x,
   fun x => piece1 (kernelRun0_A.sl.r_8 c arg1 harg1 arg2 harg2 arg3 harg3 x0 x1 x2) (kernelRun0_A.sl.r_9 c arg1 harg1 arg2 harg2 arg3 harg3 x0 x1 x2) _ P 2 (r_8_apply c arg1 harg1 arg2 harg2 arg3 harg3 x0 x1 hx2) (r_9_apply c arg1 harg1 arg2 harg2 arg3 harg3 x0 x1 hx2) 5 (by decide) 22 rfl 160 rfl slices_S256x128_o160_0_S32x128 shapeCasts_S32x128_S32x1x128 bitcasts_S32x2x128_w16_S32x1x128_w32 inb_S1152x2x128_S32x2x128_22_0_0_s_36_1_1 spos_36_1_1 x,
   fun x => piece1 (kernelRun0_A.sl.r_8 c arg1 harg1 arg2 harg2 arg3 harg3 x0 x1 x2) (kernelRun0_A.sl.r_9 c arg1 harg1 arg2 harg2 arg3 harg3 x0 x1 x2) _ P 2 (r_8_apply c arg1 harg1 arg2 harg2 arg3 harg3 x0 x1 hx2) (r_9_apply c arg1 harg1 arg2 harg2 arg3 harg3 x0 x1 hx2) 4 (by decide) 18 rfl 128 rfl slices_S256x128_o128_0_S32x128 shapeCasts_S32x128_S32x1x128 bitcasts_S32x2x128_w16_S32x1x128_w32 inb_S1152x2x128_S32x2x128_18_0_0_s_36_1_1 spos_36_1_1 x,
   fun x => piece1 (kernelRun0_A.sl.r_8 c arg1 harg1 arg2 harg2 arg3 harg3 x0 x1 x2) (kernelRun0_A.sl.r_9 c arg1 harg1 arg2 harg2 arg3 harg3 x0 x1 x2) _ P 2 (r_8_apply c arg1 harg1 arg2 harg2 arg3 harg3 x0 x1 hx2) (r_9_apply c arg1 harg1 arg2 harg2 arg3 harg3 x0 x1 hx2) 3 (by decide) 14 rfl 96 rfl slices_S256x128_o96_0_S32x128 shapeCasts_S32x128_S32x1x128 bitcasts_S32x2x128_w16_S32x1x128_w32 inb_S1152x2x128_S32x2x128_14_0_0_s_36_1_1 spos_36_1_1 x,
   fun x => piece1 (kernelRun0_A.sl.r_8 c arg1 harg1 arg2 harg2 arg3 harg3 x0 x1 x2) (kernelRun0_A.sl.r_9 c arg1 harg1 arg2 harg2 arg3 harg3 x0 x1 x2) _ P 2 (r_8_apply c arg1 harg1 arg2 harg2 arg3 harg3 x0 x1 hx2) (r_9_apply c arg1 harg1 arg2 harg2 arg3 harg3 x0 x1 hx2) 2 (by decide) 10 rfl 64 rfl slices_S256x128_o64_0_S32x128 shapeCasts_S32x128_S32x1x128 bitcasts_S32x2x128_w16_S32x1x128_w32 inb_S1152x2x128_S32x2x128_10_0_0_s_36_1_1 spos_36_1_1 x,
   fun x => piece1 (kernelRun0_A.sl.r_8 c arg1 harg1 arg2 harg2 arg3 harg3 x0 x1 x2) (kernelRun0_A.sl.r_9 c arg1 harg1 arg2 harg2 arg3 harg3 x0 x1 x2) _ P 2 (r_8_apply c arg1 harg1 arg2 harg2 arg3 harg3 x0 x1 hx2) (r_9_apply c arg1 harg1 arg2 harg2 arg3 harg3 x0 x1 hx2) 1 (by decide) 6 rfl 32 rfl slices_S256x128_o32_0_S32x128 shapeCasts_S32x128_S32x1x128 bitcasts_S32x2x128_w16_S32x1x128_w32 inb_S1152x2x128_S32x2x128_6_0_0_s_36_1_1 spos_36_1_1 x,
   fun x => piece1 (kernelRun0_A.sl.r_8 c arg1 harg1 arg2 harg2 arg3 harg3 x0 x1 x2) (kernelRun0_A.sl.r_9 c arg1 harg1 arg2 harg2 arg3 harg3 x0 x1 x2) _ P 2 (r_8_apply c arg1 harg1 arg2 harg2 arg3 harg3 x0 x1 hx2) (r_9_apply c arg1 harg1 arg2 harg2 arg3 harg3 x0 x1 hx2) 0 (by decide) 2 rfl 0 rfl slices_S256x128_o0_0_S32x128 shapeCasts_S32x128_S32x1x128 bitcasts_S32x2x128_w16_S32x1x128_w32 inb_S1152x2x128_S32x2x128_2_0_0_s_36_1_1 spos_36_1_1 x,
   fun x => piece1 (kernelRun0_A.sl.r_4 c arg1 harg1 arg2 harg2 arg3 harg3 x0 x1 x2) (kernelRun0_A.sl.r_5 c arg1 harg1 arg2 harg2 arg3 harg3 x0 x1 x2) _ P 1 (r_4_apply c arg1 harg1 arg2 harg2 arg3 harg3 x0 x1 hx2) (r_5_apply c arg1 harg1 arg2 harg2 arg3 harg3 x0 x1 hx2) 7 (by decide) 29 rfl 224 rfl slices_S256x128_o224_0_S32x128 shapeCasts_S32x128_S32x1x128 bitcasts_S32x2x128_w16_S32x1x128_w32 inb_S1152x2x128_S32x2x128_29_0_0_s_36_1_1 spos_36_1_1 x,
   fun x => piece1 (kernelRun0_A.sl.r_4 c arg1 harg1 arg2 harg2 arg3 harg3 x0 x1 x2) (kernelRun0_A.sl.r_5 c arg1 harg1 arg2 harg2 arg3 harg3 x0 x1 x2) _ P 1 (r_4_apply c arg1 harg1 arg2 harg2 arg3 harg3 x0 x1 hx2) (r_5_apply c arg1 harg1 arg2 harg2 arg3 harg3 x0 x1 hx2) 6 (by decide) 25 rfl 192 rfl slices_S256x128_o192_0_S32x128 shapeCasts_S32x128_S32x1x128 bitcasts_S32x2x128_w16_S32x1x128_w32 inb_S1152x2x128_S32x2x128_25_0_0_s_36_1_1 spos_36_1_1 x,
   fun x => piece1 (kernelRun0_A.sl.r_4 c arg1 harg1 arg2 harg2 arg3 harg3 x0 x1 x2) (kernelRun0_A.sl.r_5 c arg1 harg1 arg2 harg2 arg3 harg3 x0 x1 x2) _ P 1 (r_4_apply c arg1 harg1 arg2 harg2 arg3 harg3 x0 x1 hx2) (r_5_apply c arg1 harg1 arg2 harg2 arg3 harg3 x0 x1 hx2) 5 (by decide) 21 rfl 160 rfl slices_S256x128_o160_0_S32x128 shapeCasts_S32x128_S32x1x128 bitcasts_S32x2x128_w16_S32x1x128_w32 inb_S1152x2x128_S32x2x128_21_0_0_s_36_1_1 spos_36_1_1 x,
   fun x => piece1 (kernelRun0_A.sl.r_4 c arg1 harg1 arg2 harg2 arg3 harg3 x0 x1 x2) (kernelRun0_A.sl.r_5 c arg1 harg1 arg2 harg2 arg3 harg3 x0 x1 x2) _ P 1 (r_4_apply c arg1 harg1 arg2 harg2 arg3 harg3 x0 x1 hx2) (r_5_apply c arg1 harg1 arg2 harg2 arg3 harg3 x0 x1 hx2) 4 (by decide) 17 rfl 128 rfl slices_S256x128_o128_0_S32x128 shapeCasts_S32x128_S32x1x128 bitcasts_S32x2x128_w16_S32x1x128_w32 inb_S1152x2x128_S32x2x128_17_0_0_s_36_1_1 spos_36_1_1 x,
   fun x => piece1 (kernelRun0_A.sl.r_4 c arg1 harg1 arg2 harg2 arg3 harg3 x0 x1 x2) (kernelRun0_A.sl.r_5 c arg1 harg1 arg2 harg2 arg3 harg3 x0 x1 x2) _ P 1 (r_4_apply c arg1 harg1 arg2 harg2 arg3 harg3 x0 x1 hx2) (r_5_apply c arg1 harg1 arg2 harg2 arg3 harg3 x0 x1 hx2) 3 (by decide) 13 rfl 96 rfl slices_S256x128_o96_0_S32x128 shapeCasts_S32x128_S32x1x128 bitcasts_S32x2x128_w16_S32x1x128_w32 inb_S1152x2x128_S32x2x128_13_0_0_s_36_1_1 spos_36_1_1 x,
   fun x => piece1 (kernelRun0_A.sl.r_4 c arg1 harg1 arg2 harg2 arg3 harg3 x0 x1 x2) (kernelRun0_A.sl.r_5 c arg1 harg1 arg2 harg2 arg3 harg3 x0 x1 x2) _ P 1 (r_4_apply c arg1 harg1 arg2 harg2 arg3 harg3 x0 x1 hx2) (r_5_apply c arg1 harg1 arg2 harg2 arg3 harg3 x0 x1 hx2) 2 (by decide) 9 rfl 64 rfl slices_S256x128_o64_0_S32x128 shapeCasts_S32x128_S32x1x128 bitcasts_S32x2x128_w16_S32x1x128_w32 inb_S1152x2x128_S32x2x128_9_0_0_s_36_1_1 spos_36_1_1 x,
   fun x => piece1 (kernelRun0_A.sl.r_4 c arg1 harg1 arg2 harg2 arg3 harg3 x0 x1 x2) (kernelRun0_A.sl.r_5 c arg1 harg1 arg2 harg2 arg3 harg3 x0 x1 x2) _ P 1 (r_4_apply c arg1 harg1 arg2 harg2 arg3 harg3 x0 x1 hx2) (r_5_apply c arg1 harg1 arg2 harg2 arg3 harg3 x0 x1 hx2) 1 (by decide) 5 rfl 32 rfl slices_S256x128_o32_0_S32x128 shapeCasts_S32x128_S32x1x128 bitcasts_S32x2x128_w16_S32x1x128_w32 inb_S1152x2x128_S32x2x128_5_0_0_s_36_1_1 spos_36_1_1 x,
   fun x => piece1 (kernelRun0_A.sl.r_4 c arg1 harg1 arg2 harg2 arg3 harg3 x0 x1 x2) (kernelRun0_A.sl.r_5 c arg1 harg1 arg2 harg2 arg3 harg3 x0 x1 x2) _ P 1 (r_4_apply c arg1 harg1 arg2 harg2 arg3 harg3 x0 x1 hx2) (r_5_apply c arg1 harg1 arg2 harg2 arg3 harg3 x0 x1 hx2) 0 (by decide) 1 rfl 0 rfl slices_S256x128_o0_0_S32x128 shapeCasts_S32x128_S32x1x128 bitcasts_S32x2x128_w16_S32x1x128_w32 inb_S1152x2x128_S32x2x128_1_0_0_s_36_1_1 spos_36_1_1 x,
   fun x => piece1 (kernelRun0_A.sl.r_1 c arg1 harg1 arg2 harg2 arg3 harg3 x0 x1 x2) (kernelRun0_A.sl.r_2 c arg1 harg1 arg2 harg2 arg3 harg3 x0 x1 x2) _ P 0 (r_1_apply c arg1 harg1 arg2 harg2 arg3 harg3 x0 x1 hx2) (r_2_apply c arg1 harg1 arg2 harg2 arg3 harg3 x0 x1 hx2) 7 (by decide) 28 rfl 224 rfl slices_S256x128_o224_0_S32x128 shapeCasts_S32x128_S32x1x128 bitcasts_S32x2x128_w16_S32x1x128_w32 inb_S1152x2x128_S32x2x128_28_0_0_s_36_1_1 spos_36_1_1 x,
   fun x => piece1 (kernelRun0_A.sl.r_1 c arg1 harg1 arg2 harg2 arg3 harg3 x0 x1 x2) (kernelRun0_A.sl.r_2 c arg1 harg1 arg2 harg2 arg3 harg3 x0 x1 x2) _ P 0 (r_1_apply c arg1 harg1 arg2 harg2 arg3 harg3 x0 x1 hx2) (r_2_apply c arg1 harg1 arg2 harg2 arg3 harg3 x0 x1 hx2) 6 (by decide) 24 rfl 192 rfl slices_S256x128_o192_0_S32x128 shapeCasts_S32x128_S32x1x128 bitcasts_S32x2x128_w16_S32x1x128_w32 inb_S1152x2x128_S32x2x128_24_0_0_s_36_1_1 spos_36_1_1 x,
   fun x => piece1 (kernelRun0_A.sl.r_1 c arg1 harg1 arg2 harg2 arg3 harg3 x0 x1 x2) (kernelRun0_A.sl.r_2 c arg1 harg1 arg2 harg2 arg3 harg3 x0 x1 x2) _ P 0 (r_1_apply c arg1 harg1 arg2 harg2 arg3 harg3 x0 x1 hx2) (r_2_apply c arg1 harg1 arg2 harg2 arg3 harg3 x0 x1 hx2) 5 (by decide) 20 rfl 160 rfl slices_S256x128_o160_0_S32x128 shapeCasts_S32x128_S32x1x128 bitcasts_S32x2x128_w16_S32x1x128_w32 inb_S1152x2x128_S32x2x128_20_0_0_s_36_1_1 spos_36_1_1 x,
   fun x => piece1 (kernelRun0_A.sl.r_1 c arg1 harg1 arg2 harg2 arg3 harg3 x0 x1 x2) (kernelRun0_A.sl.r_2 c arg1 harg1 arg2 harg2 arg3 harg3 x0 x1 x2) _ P 0 (r_1_apply c arg1 harg1 arg2 harg2 arg3 harg3 x0 x1 hx2) (r_2_apply c arg1 harg1 arg2 harg2 arg3 harg3 x0 x1 hx2) 4 (by decide) 16 rfl 128 rfl slices_S256x128_o128_0_S32x128 shapeCasts_S32x128_S32x1x128 bitcasts_S32x2x128_w16_S32x1x128_w32 inb_S1152x2x128_S32x2x128_16_0_0_s_36_1_1 spos_36_1_1 x,
   fun x => piece1 (kernelRun0_A.sl.r_1 c arg1 harg1 arg2 harg2 arg3 harg3 x0 x1 x2) (kernelRun0_A.sl.r_2 c arg1 harg1 arg2 harg2 arg3 harg3 x0 x1 x2) _ P 0 (r_1_apply c arg1 harg1 arg2 harg2 arg3 harg3 x0 x1 hx2) (r_2_apply c arg1 harg1 arg2 harg2 arg3 harg3 x0 x1 hx2) 3 (by decide) 12 rfl 96 rfl slices_S256x128_o96_0_S32x128 shapeCasts_S32x128_S32x1x128 bitcasts_S32x2x128_w16_S32x1x128_w32 inb_S1152x2x128_S32x2x128_12_0_0_s_36_1_1 spos_36_1_1 x,
   fun x => piece1 (kernelRun0_A.sl.r_1 c arg1 harg1 arg2 harg2 arg3 harg3 x0 x1 x2) (kernelRun0_A.sl.r_2 c arg1 harg1 arg2 harg2 arg3 harg3 x0 x1 x2) _ P 0 (r_1_apply c arg1 harg1 arg2 harg2 arg3 harg3 x0 x1 hx2) (r_2_apply c arg1 harg1 arg2 harg2 arg3 harg3 x0 x1 hx2) 2 (by decide) 8 rfl 64 rfl slices_S256x128_o64_0_S32x128 shapeCasts_S32x128_S32x1x128 bitcasts_S32x2x128_w16_S32x1x128_w32 inb_S1152x2x128_S32x2x128_8_0_0_s_36_1_1 spos_36_1_1 x,
   fun x => piece1 (kernelRun0_A.sl.r_1 c arg1 harg1 arg2 harg2 arg3 harg3 x0 x1 x2) (kernelRun0_A.sl.r_2 c arg1 harg1 arg2 harg2 arg3 harg3 x0 x1 x2) _ P 0 (r_1_apply c arg1 harg1 arg2 harg2 arg3 harg3 x0 x1 hx2) (r_2_apply c arg1 harg1 arg2 harg2 arg3 harg3 x0 x1 hx2) 1 (by decide) 4 rfl 32 rfl slices_S256x128_o32_0_S32x128 shapeCasts_S32x128_S32x1x128 bitcasts_S32x2x128_w16_S32x1x128_w32 inb_S1152x2x128_S32x2x128_4_0_0_s_36_1_1 spos_36_1_1 x,
   fun x => piece1 (kernelRun0_A.sl.r_1 c arg1 harg1 arg2 harg2 arg3 harg3 x0 x1 x2) (kernelRun0_A.sl.r_2 c arg1 harg1 arg2 harg2 arg3 harg3 x0 x1 x2) _ P 0 (r_1_apply c arg1 harg1 arg2 harg2 arg3 harg3 x0 x1 hx2) (r_2_apply c arg1 harg1 arg2 harg2 arg3 harg3 x0 x1 hx2) 0 (by decide) 0 rfl 0 rfl slices_S256x128_o0_0_S32x128 shapeCasts_S32x128_S32x1x128 bitcasts_S32x2x128_w16_S32x1x128_w32 inb_S1152x2x128_S32x2x128_0_0_0_s_36_1_1 spos_36_1_1 x,
   trivial⟩

/-- The list has a store of the rows `o, o + 36, …` for each `o < 32`. -/
theorem s1_rects (o : Nat) (ho : o < 32) :
    ∃ p ∈ kernelRun0_A.sl.HS0_32 (F := Ideal) c arg1 harg1 arg2 harg2 arg3 harg3 x0 x1 x2, ∃ inb, p.1 = (⟨⟨![o, 0, 0], S32x2x128.size, ![36, 1, 1], inb⟩, spos_36_1_1⟩ : Rect S1152x2x128) := by
  have key : ∀ n : Nat, ∀ h : n < (kernelRun0_A.sl.HS0_32 (F := Ideal) c arg1 harg1 arg2 harg2 arg3 harg3 x0 x1 x2).length, ∀ o, (∃ inb, ((kernelRun0_A.sl.HS0_32 (F := Ideal) c arg1 harg1 arg2 harg2 arg3 harg3 x0 x1 x2)[n]).1 = (⟨⟨![o, 0, 0], S32x2x128.size, ![36, 1, 1], inb⟩, spos_36_1_1⟩ : Rect S1152x2x128)) →
      ∃ p ∈ kernelRun0_A.sl.HS0_32 (F := Ideal) c arg1 harg1 arg2 harg2 arg3 harg3 x0 x1 x2, ∃ inb, p.1 = (⟨⟨![o, 0, 0], S32x2x128.size, ![36, 1, 1], inb⟩, spos_36_1_1⟩ : Rect S1152x2x128) :=
    fun n h o hh => ⟨_, List.getElem_mem h, hh⟩
  have hl : (kernelRun0_A.sl.HS0_32 (F := Ideal) c arg1 harg1 arg2 harg2 arg3 harg3 x0 x1 x2).length = 32 := rfl
  match o, ho with
  | 0, _ => exact key 31 (by rw [hl]; decide) 0 ⟨inb_S1152x2x128_S32x2x128_0_0_0_s_36_1_1, rfl⟩
  | 1, _ => exact key 23 (by rw [hl]; decide) 1 ⟨inb_S1152x2x128_S32x2x128_1_0_0_s_36_1_1, rfl⟩
  | 2, _ => exact key 15 (by rw [hl]; decide) 2 ⟨inb_S1152x2x128_S32x2x128_2_0_0_s_36_1_1, rfl⟩
  | 3, _ => exact key 7 (by rw [hl]; decide) 3 ⟨inb_S1152x2x128_S32x2x128_3_0_0_s_36_1_1, rfl⟩
  | 4, _ => exact key 30 (by rw [hl]; decide) 4 ⟨inb_S1152x2x128_S32x2x128_4_0_0_s_36_1_1, rfl⟩
  | 5, _ => exact key 22 (by rw [hl]; decide) 5 ⟨inb_S1152x2x128_S32x2x128_5_0_0_s_36_1_1, rfl⟩
  | 6, _ => exact key 14 (by rw [hl]; decide) 6 ⟨inb_S1152x2x128_S32x2x128_6_0_0_s_36_1_1, rfl⟩
  | 7, _ => exact key 6 (by rw [hl]; decide) 7 ⟨inb_S1152x2x128_S32x2x128_7_0_0_s_36_1_1, rfl⟩
  | 8, _ => exact key 29 (by rw [hl]; decide) 8 ⟨inb_S1152x2x128_S32x2x128_8_0_0_s_36_1_1, rfl⟩
  | 9, _ => exact key 21 (by rw [hl]; decide) 9 ⟨inb_S1152x2x128_S32x2x128_9_0_0_s_36_1_1, rfl⟩
  | 10, _ => exact key 13 (by rw [hl]; decide) 10 ⟨inb_S1152x2x128_S32x2x128_10_0_0_s_36_1_1, rfl⟩
  | 11, _ => exact key 5 (by rw [hl]; decide) 11 ⟨inb_S1152x2x128_S32x2x128_11_0_0_s_36_1_1, rfl⟩
  | 12, _ => exact key 28 (by rw [hl]; decide) 12 ⟨inb_S1152x2x128_S32x2x128_12_0_0_s_36_1_1, rfl⟩
  | 13, _ => exact key 20 (by rw [hl]; decide) 13 ⟨inb_S1152x2x128_S32x2x128_13_0_0_s_36_1_1, rfl⟩
  | 14, _ => exact key 12 (by rw [hl]; decide) 14 ⟨inb_S1152x2x128_S32x2x128_14_0_0_s_36_1_1, rfl⟩
  | 15, _ => exact key 4 (by rw [hl]; decide) 15 ⟨inb_S1152x2x128_S32x2x128_15_0_0_s_36_1_1, rfl⟩
  | 16, _ => exact key 27 (by rw [hl]; decide) 16 ⟨inb_S1152x2x128_S32x2x128_16_0_0_s_36_1_1, rfl⟩
  | 17, _ => exact key 19 (by rw [hl]; decide) 17 ⟨inb_S1152x2x128_S32x2x128_17_0_0_s_36_1_1, rfl⟩
  | 18, _ => exact key 11 (by rw [hl]; decide) 18 ⟨inb_S1152x2x128_S32x2x128_18_0_0_s_36_1_1, rfl⟩
  | 19, _ => exact key 3 (by rw [hl]; decide) 19 ⟨inb_S1152x2x128_S32x2x128_19_0_0_s_36_1_1, rfl⟩
  | 20, _ => exact key 26 (by rw [hl]; decide) 20 ⟨inb_S1152x2x128_S32x2x128_20_0_0_s_36_1_1, rfl⟩
  | 21, _ => exact key 18 (by rw [hl]; decide) 21 ⟨inb_S1152x2x128_S32x2x128_21_0_0_s_36_1_1, rfl⟩
  | 22, _ => exact key 10 (by rw [hl]; decide) 22 ⟨inb_S1152x2x128_S32x2x128_22_0_0_s_36_1_1, rfl⟩
  | 23, _ => exact key 2 (by rw [hl]; decide) 23 ⟨inb_S1152x2x128_S32x2x128_23_0_0_s_36_1_1, rfl⟩
  | 24, _ => exact key 25 (by rw [hl]; decide) 24 ⟨inb_S1152x2x128_S32x2x128_24_0_0_s_36_1_1, rfl⟩
  | 25, _ => exact key 17 (by rw [hl]; decide) 25 ⟨inb_S1152x2x128_S32x2x128_25_0_0_s_36_1_1, rfl⟩
  | 26, _ => exact key 9 (by rw [hl]; decide) 26 ⟨inb_S1152x2x128_S32x2x128_26_0_0_s_36_1_1, rfl⟩
  | 27, _ => exact key 1 (by rw [hl]; decide) 27 ⟨inb_S1152x2x128_S32x2x128_27_0_0_s_36_1_1, rfl⟩
  | 28, _ => exact key 24 (by rw [hl]; decide) 28 ⟨inb_S1152x2x128_S32x2x128_28_0_0_s_36_1_1, rfl⟩
  | 29, _ => exact key 16 (by rw [hl]; decide) 29 ⟨inb_S1152x2x128_S32x2x128_29_0_0_s_36_1_1, rfl⟩
  | 30, _ => exact key 8 (by rw [hl]; decide) 30 ⟨inb_S1152x2x128_S32x2x128_30_0_0_s_36_1_1, rfl⟩
  | 31, _ => exact key 0 (by rw [hl]; decide) 31 ⟨inb_S1152x2x128_S32x2x128_31_0_0_s_36_1_1, rfl⟩
  | n + 32, h => exact absurd h (by omega)

/-- A load of the 32 rows of token `t` reads that token's tiles. -/
theorem s1_load (hx2 : HX2 P x2) (t : Nat) (ht : t < 32) (o : Nat) (ho : o = 36 * t) (inb) (r : Fin 32) (h : Fin 2) (l : Fin 128) :
    arg10.view.readCov (kernelRun0_A.sl.HS0_32 (F := Ideal) c arg1 harg1 arg2 harg2 arg3 harg3 x0 x1 x2) (Rect.unit (s := S1152x2x128) ![o, 0, 0] S32x2x128.size inb).toLoadRect (ix3 r h l)
      = Yk (at2 (k0_pay5 (F := Ideal) x0 x1)) P t (2 * r.val + h.val) l.val := by
  have hr := r.isLt
  rw [View.readCov_eq_canon']
  obtain ⟨p, hp, inb', hp1⟩ := s1_rects c arg1 harg1 arg2 harg2 arg3 harg3 x0 x1 (x2 := x2) r.val r.isLt
  have hy : (Rect.unit (s := S1152x2x128) ![o, 0, 0] S32x2x128.size inb).toLoadRect.idx (ix3 r h l)
      = (⟨⟨![r.val, 0, 0], S32x2x128.size, ![36, 1, 1], inb'⟩, spos_36_1_1⟩ : Rect S1152x2x128).idx (ix3 ⟨t, ht⟩ h l) := by
    funext a
    match a with
    | 0 => exact Fin.ext (by show o + 1 * r.val = r.val + 36 * t; omega)
    | 1 => exact Fin.ext (by show 0 + 1 * h.val = 0 + 1 * h.val; rfl)
    | 2 => exact Fin.ext (by show 0 + 1 * l.val = 0 + 1 * l.val; rfl)
  show View.canon _ _ = _
  rw [View.canon_apply_of_pieces (G1 (at2 (k0_pay5 (F := Ideal) x0 x1)) P) _ (s1_pieces c arg1 harg1 arg2 harg2 arg3 harg3 x0 x1 hx2).mem _
    ⟨p, hp, by rw [hy, hp1]; exact LoadRect.idx_mem _ _⟩]
  unfold G1
  have e0 : ((Rect.unit (s := S1152x2x128) ![o, 0, 0] S32x2x128.size inb).toLoadRect.idx (ix3 r h l) 0).val = o + 1 * r.val := rfl
  have e1 : ((Rect.unit (s := S1152x2x128) ![o, 0, 0] S32x2x128.size inb).toLoadRect.idx (ix3 r h l) 1).val = 0 + 1 * h.val := rfl
  have e2 : ((Rect.unit (s := S1152x2x128) ![o, 0, 0] S32x2x128.size inb).toLoadRect.idx (ix3 r h l) 2).val = 0 + 1 * l.val := rfl
  rw [e0, e1, e2, show (o + 1 * r.val) / 36 = t by omega, show (o + 1 * r.val) % 36 = r.val by omega, Nat.zero_add, Nat.zero_add, Nat.one_mul, Nat.one_mul]

end Cert.KernelIdeal.Val
end
end
-- ==== Proof.S2.lean ====
/- The second scratch buffer of the transform: the second product of each token, stored one token after another. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.S1b

@[expose] public section

set_option maxRecDepth 16384

noncomputable section

namespace Cert.KernelIdeal.Val

open Idealize.ShloMosaic.FinSumWindow
open Cert.KernelIdeal Cert.KernelIdeal.Gen Idealize.ShloMosaic Idealize.ShloMosaic.TcCoe Idealize.SL.Sem

open View

/-- A token's 64 tiles of 128 lanes, read back from its pairs. -/
def il (raw : Vec Ideal S32x2x128 .bf16) : FVec Ideal S64x128 .bf16 :=
  interleaveRows S64x128 (shapeCast S32x128 (rowsOfParity 0 S32x1x128 raw bitcasts_S32x2x128_w16_S32x1x128_w32) shapeCasts_S32x1x128_S32x128)
    (shapeCast S32x128 (rowsOfParity 1 S32x1x128 raw bitcasts_S32x2x128_w16_S32x1x128_w32) shapeCasts_S32x1x128_S32x128) bitcasts_S64x128_w16_S32x128_w32

/-- The interleaved rows of a token at an index. -/
theorem il_apply (raw : Vec Ideal S32x2x128 .bf16) (i : Fin 64) (l : Fin 128) :
    il raw (ix2 i l) = raw (ix3 ⟨i.val / 2, by omega⟩ ⟨i.val % 2, by omega⟩ l) := by
  unfold il
  pointwise
  by_cases h : i.val % 2 = 0
  · rw [if_pos h]; congr 1; simp only [h]; rfl
  · rw [if_neg h]; congr 1; simp only [show i.val % 2 = 1 by omega]; rfl

/-- Eight blocks of 64 rows in a four by two arrangement. -/
def cat44 (v : Fin 8 → FVec Ideal S64x128 .bf16) : FVec Ideal S256x256 .bf16 :=
  concatenate S256x256 1 [⟨S256x128, concatenate S256x128 0 [⟨S64x128, v 0⟩, ⟨S64x128, v 1⟩, ⟨S64x128, v 2⟩, ⟨S64x128, v 3⟩] concatenates_S64x128_S64x128_S64x128_S64x128_S256x128_d0⟩,
    ⟨S256x128, concatenate S256x128 0 [⟨S64x128, v 4⟩, ⟨S64x128, v 5⟩, ⟨S64x128, v 6⟩, ⟨S64x128, v 7⟩] concatenates_S64x128_S64x128_S64x128_S64x128_S256x128_d0⟩] concatenates_S256x128_S256x128_S256x256_d1

/-- Four tokens stacked, at an index. -/
theorem cat4_apply (v0 v1 v2 v3 : FVec Ideal S64x128 .bf16) (m : Fin 4) (i : Fin 64) (c : Fin 256) (l : Fin 128) (hc : c.val = 64 * m.val + i.val) :
    concatenate S256x128 0 [⟨S64x128, v0⟩, ⟨S64x128, v1⟩, ⟨S64x128, v2⟩, ⟨S64x128, v3⟩] concatenates_S64x128_S64x128_S64x128_S64x128_S256x128_d0 (ix2 c l)
      = (![v0, v1, v2, v3] m) (ix2 i l) := by
  pointwise
  have key : ∀ (v : FVec Ideal S64x128 .bf16) (i' : Fin 64), i'.val = i.val → v (ix2 i' l) = v (ix2 i l) := by
    intro v i' h0
    rw [Fin.ext h0]
  obtain ⟨m, hm⟩ := m
  dsimp only at hc
  interval_cases m
  · rw [dif_pos (by omega)]; exact key v0 _ (by dsimp only; omega)
  · rw [dif_neg (by omega), dif_pos (by omega)]; exact key v1 _ (by dsimp only; omega)
  · rw [dif_neg (by omega), dif_neg (by omega), dif_pos (by omega)]; exact key v2 _ (by dsimp only; omega)
  · rw [dif_neg (by omega), dif_neg (by omega), dif_neg (by omega)]; exact key v3 _ (by dsimp only; omega)

/-- Two blocks side by side, at an index. -/
theorem cat2_apply (v0 v1 : FVec Ideal S256x128 .bf16) (n : Fin 2) (l : Fin 128) (c q : Fin 256) (hq : q.val = 128 * n.val + l.val) :
    concatenate S256x256 1 [⟨S256x128, v0⟩, ⟨S256x128, v1⟩] concatenates_S256x128_S256x128_S256x256_d1 (ix2 c q)
      = (![v0, v1] n) (ix2 c l) := by
  pointwise
  have key : ∀ (v : FVec Ideal S256x128 .bf16) (i' : Fin 128), i'.val = l.val → v (ix2 c i') = v (ix2 c l) := by
    intro v i' h0
    rw [Fin.ext h0]
  obtain ⟨n, hn⟩ := n
  dsimp only at hq
  interval_cases n
  · rw [dif_pos (by omega)]; exact key v0 _ (by dsimp only; omega)
  · rw [dif_neg (by omega)]; exact key v1 _ (by dsimp only; omega)

/-- Eight tokens in two columns of four, at an index. -/
theorem cat44_apply (v : Fin 8 → FVec Ideal S64x128 .bf16) (n : Fin 2) (m : Fin 4) (i : Fin 64) (l : Fin 128) (c q : Fin 256)
    (hc : c.val = 64 * m.val + i.val) (hq : q.val = 128 * n.val + l.val) :
    cat44 v (ix2 c q) = v ⟨4 * n.val + m.val, by omega⟩ (ix2 i l) := by
  unfold cat44
  rw [cat2_apply _ _ n l c q hq]
  match n with
  | 0 =>
    refine (cat4_apply _ _ _ _ m i c l hc).trans ?_
    match m with
    | 0 => rfl
    | 1 => rfl
    | 2 => rfl
    | 3 => rfl
  | 1 =>
    refine (cat4_apply _ _ _ _ m i c l hc).trans ?_
    match m with
    | 0 => rfl
    | 1 => rfl
    | 2 => rfl
    | 3 => rfl

/-- The second product of a token. -/
def Zk (X P Q : Nat → Nat → EReal) (t a l : Nat) : EReal := ∑ i : Fin 64, Q i.val a * Yk X P t i.val l

/-- The layout of the second product's left operand: four diagonal blocks. -/
def HX3 (Q : Nat → Nat → EReal) (x3 : Vec Ideal S256x256 .bf16) : Prop :=
  ∀ (r c : Fin 256), x3 (ix2 r c) = if r.val / 64 = c.val / 64 then Q (c.val % 64) (r.val % 64) else 0

variable (c : Dev nD) (arg1 : Memref sig .tc .vmem S32x7168 .bf16) (harg1 : arg1.IsWhole)
  (arg2 : Memref sig .tc .vmem S1x7168 .f32) (harg2 : arg2.IsWhole) (arg3 : Memref sig .tc .vmem S4x384x256 .bf16) (harg3 : arg3.IsWhole)
  (arg4 : Memref sig .tc .vmem S256x256 .bf16) (harg4 : arg4.IsWhole)
  (arg10 : Memref sig .tc .vmem S1152x2x128 .bf16) (arg11 : Memref sig .tc .vmem S2176x128 .f32)
  (x0 : Vec Ideal S32x7168 .bf16) (x1 : Vec Ideal S1x7168 .f32) {x2 : Vec Ideal S4x384x256 .bf16} {x3 : Vec Ideal S256x256 .bf16}
  {P Q : Nat → Nat → EReal}

/-- The load of the block diagonal factor. -/
theorem v197_apply (r q : Fin 256) : kernelRun0_A.sl.v197 (F := Ideal) c arg4 harg4 x3 (ix2 r q) = x3 (ix2 r q) := by
  have e : kernelRun0_A.sl.v197 (F := Ideal) c arg4 harg4 x3 (ix2 r q)
      = View.readAt (Elt Ideal) arg4.view (Rect.unit (s := S256x256) ![0, 0] S256x256.size inb_S256x256_S256x256_0_0).toLoadRect (harg4.unread x3) (ix2 r q) := by
    unfold kernelRun0_A.sl.v197
    pointwise
  rw [e, View.readAt_eq_ld, harg4.read_unread, View.ld_apply]
  congr 1
  funext a
  match a with
  | 0 => exact Fin.ext (by show 0 + 1 * r.val = r.val; omega)
  | 1 => exact Fin.ext (by show 0 + 1 * q.val = q.val; omega)

/-- The second product of eight tokens, at one token's tile and lane. -/
theorem zdot_apply (hx3 : HX3 Q x3) (raw : Fin 8 → Vec Ideal S32x2x128 .bf16) (Y : Nat → Nat → Nat → EReal) (t0 : Nat)
    (hraw : ∀ (s : Fin 8) (r : Fin 32) (h : Fin 2) (l : Fin 128), raw s (ix3 r h l) = Y (t0 + s.val) (2 * r.val + h.val) l.val)
    (n : Fin 2) (m : Fin 4) (a : Fin 64) (l : Fin 128) (r q : Fin 256) (hr : r.val = 64 * m.val + a.val) (hq : q.val = 128 * n.val + l.val) :
    matmul dot_S256x256_S256x256_S256x256_1_0_0_1_n_n none (kernelRun0_A.sl.v197 (F := Ideal) c arg4 harg4 x3) (cat44 fun s => il (raw s))
        (constant S256x256 .f32 0x00000000#32) (ix2 r q)
      = ∑ i : Fin 64, Q i.val a.val * Y (t0 + (4 * n.val + m.val)) i.val l.val := by
  rw [mm256_apply, sum_window (64 * m.val) (W := 64) (by omega) _ fun k hk => ?_]
  · refine Finset.sum_congr rfl fun i _ => ?_
    rw [v197_apply, hx3, if_pos (by dsimp only; omega), cat44_apply _ n m i l _ q rfl hq, il_apply, hraw]
    congr 2
    · show (64 * m.val + i.val) % 64 = i.val; omega
    · omega
    · show 2 * (i.val / 2) + i.val % 2 = i.val; omega
  · rw [v197_apply, hx3, if_neg (by omega), zero_mul]

/-- The contents of the second scratch buffer: row `68 t + a` is row `a` of token `t`'s product. -/
def G2 (Z : Nat → Nat → Nat → EReal) (y : S2176x128.Idx) : EReal := Z ((y 0).val / 68) ((y 0).val % 68) (y 1).val

/-- One store of a token's second product writes its block of `G2`. -/
theorem piece2 (zd : FVec Ideal S256x256 .f32) (Z : Nat → Nat → Nat → EReal) (t0 : Nat)
    (hzd : ∀ (n : Fin 2) (m : Fin 4) (a : Fin 64) (l : Fin 128) (r q : Fin 256), r.val = 64 * m.val + a.val → q.val = 128 * n.val + l.val →
      zd (ix2 r q) = Z (t0 + (4 * n.val + m.val)) a.val l.val)
    (n : Fin 2) (m : Fin 4) (o1 o2 o : Nat) (h1 : o1 = 64 * m.val) (h2 : o2 = 128 * n.val) (ho : o = 68 * (t0 + (4 * n.val + m.val))) (hs) (hc) (inb) (x : S64x128.Idx) :
    shapeCast S64x128 (extractStridedSlice S64x128 ![o1, o2] zd hs) hc x = G2 Z ((Rect.unit (s := S2176x128) ![o, 0] S64x128.size inb).emb x) := by
  idx_vars x
  have hm := m.isLt
  have hn := n.isLt
  have e : shapeCast S64x128 (extractStridedSlice S64x128 ![o1, o2] zd hs) hc (ix2 x0 x1) = zd (ix2 ⟨64 * m.val + x0.val, by omega⟩ ⟨128 * n.val + x1.val, by omega⟩) := by
    subst h1 h2
    pointwise
  rw [e, hzd n m x0 x1 _ _ rfl rfl]
  unfold G2
  have e0 : ((Rect.unit (s := S2176x128) ![o, 0] S64x128.size inb).emb (ix2 x0 x1) 0).val = o + 1 * x0.val := rfl
  have e1 : ((Rect.unit (s := S2176x128) ![o, 0] S64x128.size inb).emb (ix2 x0 x1) 1).val = 0 + 1 * x1.val := rfl
  rw [e0, e1, show (o + 1 * x0.val) / 68 = t0 + (4 * n.val + m.val) by omega, show (o + 1 * x0.val) % 68 = x0.val by omega, Nat.zero_add, Nat.one_mul]

/-- What the loads of the first scratch buffer read, token by token. -/
def raw (c : Dev nD) (arg1 : Memref sig .tc .vmem S32x7168 .bf16) (harg1 : arg1.IsWhole)
  (arg2 : Memref sig .tc .vmem S1x7168 .f32) (harg2 : arg2.IsWhole) (arg3 : Memref sig .tc .vmem S4x384x256 .bf16) (harg3 : arg3.IsWhole)
  (arg10 : Memref sig .tc .vmem S1152x2x128 .bf16) (x0 : Vec Ideal S32x7168 .bf16) (x1 : Vec Ideal S1x7168 .f32) (x2 : Vec Ideal S4x384x256 .bf16)
  (q : Fin 4) (s : Fin 8) : Vec Ideal S32x2x128 .bf16 :=
  arg10.view.readCov (kernelRun0_A.sl.HS0_32 (F := Ideal) c arg1 harg1 arg2 harg2 arg3 harg3 x0 x1 x2)
    (Rect.unit (s := S1152x2x128) ![36 * (8 * q.val + s.val), 0, 0] S32x2x128.size (by
      intro a
      match a with
      | 0 => show 36 * (8 * q.val + s.val) + 32 ≤ 1152; omega
      | 1 => exact Nat.le_refl _
      | 2 => exact Nat.le_refl _)).toLoadRect

/-- The tiles of a token as the second product loads them. -/
theorem raw_apply (hx2 : HX2 P x2) (q : Fin 4) (s : Fin 8) (r : Fin 32) (h : Fin 2) (l : Fin 128) :
    raw c arg1 harg1 arg2 harg2 arg3 harg3 arg10 x0 x1 x2 q s (ix3 r h l) = Yk (at2 (k0_pay5 (F := Ideal) x0 x1)) P (8 * q.val + s.val) (2 * r.val + h.val) l.val :=
  s1_load c arg1 harg1 arg2 harg2 arg3 harg3 arg10 x0 x1 hx2 (8 * q.val + s.val) (by omega) _ rfl _ r h l

/-- The four products of eight tokens each. -/
def zd (c : Dev nD) (arg1 : Memref sig .tc .vmem S32x7168 .bf16) (harg1 : arg1.IsWhole)
  (arg2 : Memref sig .tc .vmem S1x7168 .f32) (harg2 : arg2.IsWhole) (arg3 : Memref sig .tc .vmem S4x384x256 .bf16) (harg3 : arg3.IsWhole)
  (arg4 : Memref sig .tc .vmem S256x256 .bf16) (harg4 : arg4.IsWhole)
  (arg10 : Memref sig .tc .vmem S1152x2x128 .bf16) (x0 : Vec Ideal S32x7168 .bf16) (x1 : Vec Ideal S1x7168 .f32) (x2 : Vec Ideal S4x384x256 .bf16)
  (x3 : Vec Ideal S256x256 .bf16) (q : Fin 4) : FVec Ideal S256x256 .f32 :=
  matmul dot_S256x256_S256x256_S256x256_1_0_0_1_n_n none (kernelRun0_A.sl.v197 (F := Ideal) c arg4 harg4 x3)
    (cat44 fun s => il (raw c arg1 harg1 arg2 harg2 arg3 harg3 arg10 x0 x1 x2 q s)) (constant S256x256 .f32 0x00000000#32)

/-- The product of eight tokens at an index is their transformed activation. -/
theorem zd_apply (hx2 : HX2 P x2) (hx3 : HX3 Q x3) (g : Fin 4) (n : Fin 2) (m : Fin 4) (a : Fin 64) (l : Fin 128) (r q : Fin 256)
    (hr : r.val = 64 * m.val + a.val) (hq : q.val = 128 * n.val + l.val) :
    zd c arg1 harg1 arg2 harg2 arg3 harg3 arg4 harg4 arg10 x0 x1 x2 x3 g (ix2 r q) = Zk (at2 (k0_pay5 (F := Ideal) x0 x1)) P Q (8 * g.val + (4 * n.val + m.val)) a.val l.val :=
  zdot_apply c arg4 harg4 hx3 _ (Yk (at2 (k0_pay5 (F := Ideal) x0 x1)) P) (8 * g.val) (raw_apply c arg1 harg1 arg2 harg2 arg3 harg3 arg10 x0 x1 hx2 g) n m a l r q hr hq

set_option maxHeartbeats 8000000 in
/-- All 32 stores write the one array `G2`. -/
theorem s2_pieces (hx2 : HX2 P x2) (hx3 : HX3 Q x3) :
    View.PiecesOf (G2 (Zk (at2 (k0_pay5 (F := Ideal) x0 x1)) P Q)) (kernelRun0_A.sl.HS1_32 (F := Ideal) c arg1 harg1 arg2 harg2 arg3 harg3 arg4 harg4 arg10 x0 x1 x2 x3) :=
  ⟨fun x => piece2 (zd c arg1 harg1 arg2 harg2 arg3 harg3 arg4 harg4 arg10 x0 x1 x2 x3 3) _ 24 (zd_apply c arg1 harg1 arg2 harg2 arg3 harg3 arg4 harg4 arg10 x0 x1 hx2 hx3 3) 1 3 192 128 2108 rfl rfl rfl slices_S256x256_o192_128_S64x128 shapeCasts_S64x128_S64x128 inb_S2176x128_S64x128_2108_0 x,
   fun x => piece2 (zd c arg1 harg1 arg2 harg2 arg3 harg3 arg4 harg4 arg10 x0 x1 x2 x3 3) _ 24 (zd_apply c arg1 harg1 arg2 harg2 arg3 harg3 arg4 harg4 arg10 x0 x1 hx2 hx3 3) 1 2 128 128 2040 rfl rfl rfl slices_S256x256_o128_128_S64x128 shapeCasts_S64x128_S64x128 inb_S2176x128_S64x128_2040_0 x,
   fun x => piece2 (zd c arg1 harg1 arg2 harg2 arg3 harg3 arg4 harg4 arg10 x0 x1 x2 x3 3) _ 24 (zd_apply c arg1 harg1 arg2 harg2 arg3 harg3 arg4 harg4 arg10 x0 x1 hx2 hx3 3) 1 1 64 128 1972 rfl rfl rfl slices_S256x256_o64_128_S64x128 shapeCasts_S64x128_S64x128 inb_S2176x128_S64x128_1972_0 x,
   fun x => piece2 (zd c arg1 harg1 arg2 harg2 arg3 harg3 arg4 harg4 arg10 x0 x1 x2 x3 3) _ 24 (zd_apply c arg1 harg1 arg2 harg2 arg3 harg3 arg4 harg4 arg10 x0 x1 hx2 hx3 3) 1 0 0 128 1904 rfl rfl rfl slices_S256x256_o0_128_S64x128 shapeCasts_S64x128_S64x128 inb_S2176x128_S64x128_1904_0 x,
   fun x => piece2 (zd c arg1 harg1 arg2 harg2 arg3 harg3 arg4 harg4 arg10 x0 x1 x2 x3 3) _ 24 (zd_apply c arg1 harg1 arg2 harg2 arg3 harg3 arg4 harg4 arg10 x0 x1 hx2 hx3 3) 0 3 192 0 1836 rfl rfl rfl slices_S256x256_o192_0_S64x128 shapeCasts_S64x128_S64x128 inb_S2176x128_S64x128_1836_0 x,
   fun x => piece2 (zd c arg1 harg1 arg2 harg2 arg3 harg3 arg4 harg4 arg10 x0 x1 x2 x3 3) _ 24 (zd_apply c arg1 harg1 arg2 harg2 arg3 harg3 arg4 harg4 arg10 x0 x1 hx2 hx3 3) 0 2 128 0 1768 rfl rfl rfl slices_S256x256_o128_0_S64x128 shapeCasts_S64x128_S64x128 inb_S2176x128_S64x128_1768_0 x,
   fun x => piece2 (zd c arg1 harg1 arg2 harg2 arg3 harg3 arg4 harg4 arg10 x0 x1 x2 x3 3) _ 24 (zd_apply c arg1 harg1 arg2 harg2 arg3 harg3 arg4 harg4 arg10 x0 x1 hx2 hx3 3) 0 1 64 0 1700 rfl rfl rfl slices_S256x256_o64_0_S64x128 shapeCasts_S64x128_S64x128 inb_S2176x128_S64x128_1700_0 x,
   fun x => piece2 (zd c arg1 harg1 arg2 harg2 arg3 harg3 arg4 harg4 arg10 x0 x1 x2 x3 3) _ 24 (zd_apply c arg1 harg1 arg2 harg2 arg3 harg3 arg4 harg4 arg10 x0 x1 hx2 hx3 3) 0 0 0 0 1632 rfl rfl rfl slices_S256x256_o0_0_S64x128 shapeCasts_S64x128_S64x128 inb_S2176x128_S64x128_1632_0 x,
   fun x => piece2 (zd c arg1 harg1 arg2 harg2 arg3 harg3 arg4 harg4 arg10 x0 x1 x2 x3 2) _ 16 (zd_apply c arg1 harg1 arg2 harg2 arg3 harg3 arg4 harg4 arg10 x0 x1 hx2 hx3 2) 1 3 192 128 1564 rfl rfl rfl slices_S256x256_o192_128_S64x128 shapeCasts_S64x128_S64x128 inb_S2176x128_S64x128_1564_0 x,
   fun x => piece2 (zd c arg1 harg1 arg2 harg2 arg3 harg3 arg4 harg4 arg10 x0 x1 x2 x3 2) _ 16 (zd_apply c arg1 harg1 arg2 harg2 arg3 harg3 arg4 harg4 arg10 x0 x1 hx2 hx3 2) 1 2 128 128 1496 rfl rfl rfl slices_S256x256_o128_128_S64x128 shapeCasts_S64x128_S64x128 inb_S2176x128_S64x128_1496_0 x,
   fun x => piece2 (zd c arg1 harg1 arg2 harg2 arg3 harg3 arg4 harg4 arg10 x0 x1 x2 x3 2) _ 16 (zd_apply c arg1 harg1 arg2 harg2 arg3 harg3 arg4 harg4 arg10 x0 x1 hx2 hx3 2) 1 1 64 128 1428 rfl rfl rfl slices_S256x256_o64_128_S64x128 shapeCasts_S64x128_S64x128 inb_S2176x128_S64x128_1428_0 x,
   fun x => piece2 (zd c arg1 harg1 arg2 harg2 arg3 harg3 arg4 harg4 arg10 x0 x1 x2 x3 2) _ 16 (zd_apply c arg1 harg1 arg2 harg2 arg3 harg3 arg4 harg4 arg10 x0 x1 hx2 hx3 2) 1 0 0 128 1360 rfl rfl rfl slices_S256x256_o0_128_S64x128 shapeCasts_S64x128_S64x128 inb_S2176x128_S64x128_1360_0 x,
   fun x => piece2 (zd c arg1 harg1 arg2 harg2 arg3 harg3 arg4 harg4 arg10 x0 x1 x2 x3 2) _ 16 (zd_apply c arg1 harg1 arg2 harg2 arg3 harg3 arg4 harg4 arg10 x0 x1 hx2 hx3 2) 0 3 192 0 1292 rfl rfl rfl slices_S256x256_o192_0_S64x128 shapeCasts_S64x128_S64x128 inb_S2176x128_S64x128_1292_0 x,
   fun x => piece2 (zd c arg1 harg1 arg2 harg2 arg3 harg3 arg4 harg4 arg10 x0 x1 x2 x3 2) _ 16 (zd_apply c arg1 harg1 arg2 harg2 arg3 harg3 arg4 harg4 arg10 x0 x1 hx2 hx3 2) 0 2 128 0 1224 rfl rfl rfl slices_S256x256_o128_0_S64x128 shapeCasts_S64x128_S64x128 inb_S2176x128_S64x128_1224_0 x,
   fun x => piece2 (zd c arg1 harg1 arg2 harg2 arg3 harg3 arg4 harg4 arg10 x0 x1 x2 x3 2) _ 16 (zd_apply c arg1 harg1 arg2 harg2 arg3 harg3 arg4 harg4 arg10 x0 x1 hx2 hx3 2) 0 1 64 0 1156 rfl rfl rfl slices_S256x256_o64_0_S64x128 shapeCasts_S64x128_S64x128 inb_S2176x128_S64x128_1156_0 x,
   fun x => piece2 (zd c arg1 harg1 arg2 harg2 arg3 harg3 arg4 harg4 arg10 x0 x1 x2 x3 2) _ 16 (zd_apply c arg1 harg1 arg2 harg2 arg3 harg3 arg4 harg4 arg10 x0 x1 hx2 hx3 2) 0 0 0 0 1088 rfl rfl rfl slices_S256x256_o0_0_S64x128 shapeCasts_S64x128_S64x128 inb_S2176x128_S64x128_1088_0 x,
   fun x => piece2 (zd c arg1 harg1 arg2 harg2 arg3 harg3 arg4 harg4 arg10 x0 x1 x2 x3 1) _ 8 (zd_apply c arg1 harg1 arg2 harg2 arg3 harg3 arg4 harg4 arg10 x0 x1 hx2 hx3 1) 1 3 192 128 1020 rfl rfl rfl slices_S256x256_o192_128_S64x128 shapeCasts_S64x128_S64x128 inb_S2176x128_S64x128_1020_0 x,
   fun x => piece2 (zd c arg1 harg1 arg2 harg2 arg3 harg3 arg4 harg4 arg10 x0 x1 x2 x3 1) _ 8 (zd_apply c arg1 harg1 arg2 harg2 arg3 harg3 arg4 harg4 arg10 x0 x1 hx2 hx3 1) 1 2 128 128 952 rfl rfl rfl slices_S256x256_o128_128_S64x128 shapeCasts_S64x128_S64x128 inb_S2176x128_S64x128_952_0 x,
   fun x => piece2 (zd c arg1 harg1 arg2 harg2 arg3 harg3 arg4 harg4 arg10 x0 x1 x2 x3 1) _ 8 (zd_apply c arg1 harg1 arg2 harg2 arg3 harg3 arg4 harg4 arg10 x0 x1 hx2 hx3 1) 1 1 64 128 884 rfl rfl rfl slices_S256x256_o64_128_S64x128 shapeCasts_S64x128_S64x128 inb_S2176x128_S64x128_884_0 x,
   fun x => piece2 (zd c arg1 harg1 arg2 harg2 arg3 harg3 arg4 harg4 arg10 x0 x1 x2 x3 1) _ 8 (zd_apply c arg1 harg1 arg2 harg2 arg3 harg3 arg4 harg4 arg10 x0 x1 hx2 hx3 1) 1 0 0 128 816 rfl rfl rfl slices_S256x256_o0_128_S64x128 shapeCasts_S64x128_S64x128 inb_S2176x128_S64x128_816_0 x,
   fun x => piece2 (zd c arg1 harg1 arg2 harg2 arg3 harg3 arg4 harg4 arg10 x0 x1 x2 x3 1) _ 8 (zd_apply c arg1 harg1 arg2 harg2 arg3 harg3 arg4 harg4 arg10 x0 x1 hx2 hx3 1) 0 3 192 0 748 rfl rfl rfl slices_S256x256_o192_0_S64x128 shapeCasts_S64x128_S64x128 inb_S2176x128_S64x128_748_0 x,
   fun x => piece2 (zd c arg1 harg1 arg2 harg2 arg3 harg3 arg4 harg4 arg10 x0 x1 x2 x3 1) _ 8 (zd_apply c arg1 harg1 arg2 harg2 arg3 harg3 arg4 harg4 arg10 x0 x1 hx2 hx3 1) 0 2 128 0 680 rfl rfl rfl slices_S256x256_o128_0_S64x128 shapeCasts_S64x128_S64x128 inb_S2176x128_S64x128_680_0 x,
   fun x => piece2 (zd c arg1 harg1 arg2 harg2 arg3 harg3 arg4 harg4 arg10 x0 x1 x2 x3 1) _ 8 (zd_apply c arg1 harg1 arg2 harg2 arg3 harg3 arg4 harg4 arg10 x0 x1 hx2 hx3 1) 0 1 64 0 612 rfl rfl rfl slices_S256x256_o64_0_S64x128 shapeCasts_S64x128_S64x128 inb_S2176x128_S64x128_612_0 x,
   fun x => piece2 (zd c arg1 harg1 arg2 harg2 arg3 harg3 arg4 harg4 arg10 x0 x1 x2 x3 1) _ 8 (zd_apply c arg1 harg1 arg2 harg2 arg3 harg3 arg4 harg4 arg10 x0 x1 hx2 hx3 1) 0 0 0 0 544 rfl rfl rfl slices_S256x256_o0_0_S64x128 shapeCasts_S64x128_S64x128 inb_S2176x128_S64x128_544_0 x,
   fun x => piece2 (zd c arg1 harg1 arg2 harg2 arg3 harg3 arg4 harg4 arg10 x0 x1 x2 x3 0) _ 0 (zd_apply c arg1 harg1 arg2 harg2 arg3 harg3 arg4 harg4 arg10 x0 x1 hx2 hx3 0) 1 3 192 128 476 rfl rfl rfl slices_S256x256_o192_128_S64x128 shapeCasts_S64x128_S64x128 inb_S2176x128_S64x128_476_0 x,
   fun x => piece2 (zd c arg1 harg1 arg2 harg2 arg3 harg3 arg4 harg4 arg10 x0 x1 x2 x3 0) _ 0 (zd_apply c arg1 harg1 arg2 harg2 arg3 harg3 arg4 harg4 arg10 x0 x1 hx2 hx3 0) 1 2 128 128 408 rfl rfl rfl slices_S256x256_o128_128_S64x128 shapeCasts_S64x128_S64x128 inb_S2176x128_S64x128_408_0 x,
   fun x => piece2 (zd c arg1 harg1 arg2 harg2 arg3 harg3 arg4 harg4 arg10 x0 x1 x2 x3 0) _ 0 (zd_apply c arg1 harg1 arg2 harg2 arg3 harg3 arg4 harg4 arg10 x0 x1 hx2 hx3 0) 1 1 64 128 340 rfl rfl rfl slices_S256x256_o64_128_S64x128 shapeCasts_S64x128_S64x128 inb_S2176x128_S64x128_340_0 x,
   fun x => piece2 (zd c arg1 harg1 arg2 harg2 arg3 harg3 arg4 harg4 arg10 x0 x1 x2 x3 0) _ 0 (zd_apply c arg1 harg1 arg2 harg2 arg3 harg3 arg4 harg4 arg10 x0 x1 hx2 hx3 0) 1 0 0 128 272 rfl rfl rfl slices_S256x256_o0_128_S64x128 shapeCasts_S64x128_S64x128 inb_S2176x128_S64x128_272_0 x,
   fun x => piece2 (zd c arg1 harg1 arg2 harg2 arg3 harg3 arg4 harg4 arg10 x0 x1 x2 x3 0) _ 0 (zd_apply c arg1 harg1 arg2 harg2 arg3 harg3 arg4 harg4 arg10 x0 x1 hx2 hx3 0) 0 3 192 0 204 rfl rfl rfl slices_S256x256_o192_0_S64x128 shapeCasts_S64x128_S64x128 inb_S2176x128_S64x128_204_0 x,
   fun x => piece2 (zd c arg1 harg1 arg2 harg2 arg3 harg3 arg4 harg4 arg10 x0 x1 x2 x3 0) _ 0 (zd_apply c arg1 harg1 arg2 harg2 arg3 harg3 arg4 harg4 arg10 x0 x1 hx2 hx3 0) 0 2 128 0 136 rfl rfl rfl slices_S256x256_o128_0_S64x128 shapeCasts_S64x128_S64x128 inb_S2176x128_S64x128_136_0 x,
   fun x => piece2 (zd c arg1 harg1 arg2 harg2 arg3 harg3 arg4 harg4 arg10 x0 x1 x2 x3 0) _ 0 (zd_apply c arg1 harg1 arg2 harg2 arg3 harg3 arg4 harg4 arg10 x0 x1 hx2 hx3 0) 0 1 64 0 68 rfl rfl rfl slices_S256x256_o64_0_S64x128 shapeCasts_S64x128_S64x128 inb_S2176x128_S64x128_68_0 x,
   fun x => piece2 (zd c arg1 harg1 arg2 harg2 arg3 harg3 arg4 harg4 arg10 x0 x1 x2 x3 0) _ 0 (zd_apply c arg1 harg1 arg2 harg2 arg3 harg3 arg4 harg4 arg10 x0 x1 hx2 hx3 0) 0 0 0 0 0 rfl rfl rfl slices_S256x256_o0_0_S64x128 shapeCasts_S64x128_S64x128 inb_S2176x128_S64x128_0_0 x,
   trivial⟩

/-- Among the stores there is one of the 64 rows of each token. -/
theorem s2_rects (t : Nat) (ht : t < 32) :
    ∃ p ∈ kernelRun0_A.sl.HS1_32 (F := Ideal) c arg1 harg1 arg2 harg2 arg3 harg3 arg4 harg4 arg10 x0 x1 x2 x3, ∃ inb, p.1 = Rect.unit (s := S2176x128) ![68 * t, 0] S64x128.size inb := by
  have key : ∀ n : Nat, ∀ h : n < (kernelRun0_A.sl.HS1_32 (F := Ideal) c arg1 harg1 arg2 harg2 arg3 harg3 arg4 harg4 arg10 x0 x1 x2 x3).length, ∀ t, (∃ inb, ((kernelRun0_A.sl.HS1_32 (F := Ideal) c arg1 harg1 arg2 harg2 arg3 harg3 arg4 harg4 arg10 x0 x1 x2 x3)[n]).1 = Rect.unit (s := S2176x128) ![68 * t, 0] S64x128.size inb) →
      ∃ p ∈ kernelRun0_A.sl.HS1_32 (F := Ideal) c arg1 harg1 arg2 harg2 arg3 harg3 arg4 harg4 arg10 x0 x1 x2 x3, ∃ inb, p.1 = Rect.unit (s := S2176x128) ![68 * t, 0] S64x128.size inb :=
    fun n h o hh => ⟨_, List.getElem_mem h, hh⟩
  have hl : (kernelRun0_A.sl.HS1_32 (F := Ideal) c arg1 harg1 arg2 harg2 arg3 harg3 arg4 harg4 arg10 x0 x1 x2 x3).length = 32 := rfl
  match t, ht with
  | 0, _ => exact key 31 (by rw [hl]; decide) 0 ⟨inb_S2176x128_S64x128_0_0, rfl⟩
  | 1, _ => exact key 30 (by rw [hl]; decide) 1 ⟨inb_S2176x128_S64x128_68_0, rfl⟩
  | 2, _ => exact key 29 (by rw [hl]; decide) 2 ⟨inb_S2176x128_S64x128_136_0, rfl⟩
  | 3, _ => exact key 28 (by rw [hl]; decide) 3 ⟨inb_S2176x128_S64x128_204_0, rfl⟩
  | 4, _ => exact key 27 (by rw [hl]; decide) 4 ⟨inb_S2176x128_S64x128_272_0, rfl⟩
  | 5, _ => exact key 26 (by rw [hl]; decide) 5 ⟨inb_S2176x128_S64x128_340_0, rfl⟩
  | 6, _ => exact key 25 (by rw [hl]; decide) 6 ⟨inb_S2176x128_S64x128_408_0, rfl⟩
  | 7, _ => exact key 24 (by rw [hl]; decide) 7 ⟨inb_S2176x128_S64x128_476_0, rfl⟩
  | 8, _ => exact key 23 (by rw [hl]; decide) 8 ⟨inb_S2176x128_S64x128_544_0, rfl⟩
  | 9, _ => exact key 22 (by rw [hl]; decide) 9 ⟨inb_S2176x128_S64x128_612_0, rfl⟩
  | 10, _ => exact key 21 (by rw [hl]; decide) 10 ⟨inb_S2176x128_S64x128_680_0, rfl⟩
  | 11, _ => exact key 20 (by rw [hl]; decide) 11 ⟨inb_S2176x128_S64x128_748_0, rfl⟩
  | 12, _ => exact key 19 (by rw [hl]; decide) 12 ⟨inb_S2176x128_S64x128_816_0, rfl⟩
  | 13, _ => exact key 18 (by rw [hl]; decide) 13 ⟨inb_S2176x128_S64x128_884_0, rfl⟩
  | 14, _ => exact key 17 (by rw [hl]; decide) 14 ⟨inb_S2176x128_S64x128_952_0, rfl⟩
  | 15, _ => exact key 16 (by rw [hl]; decide) 15 ⟨inb_S2176x128_S64x128_1020_0, rfl⟩
  | 16, _ => exact key 15 (by rw [hl]; decide) 16 ⟨inb_S2176x128_S64x128_1088_0, rfl⟩
  | 17, _ => exact key 14 (by rw [hl]; decide) 17 ⟨inb_S2176x128_S64x128_1156_0, rfl⟩
  | 18, _ => exact key 13 (by rw [hl]; decide) 18 ⟨inb_S2176x128_S64x128_1224_0, rfl⟩
  | 19, _ => exact key 12 (by rw [hl]; decide) 19 ⟨inb_S2176x128_S64x128_1292_0, rfl⟩
  | 20, _ => exact key 11 (by rw [hl]; decide) 20 ⟨inb_S2176x128_S64x128_1360_0, rfl⟩
  | 21, _ => exact key 10 (by rw [hl]; decide) 21 ⟨inb_S2176x128_S64x128_1428_0, rfl⟩
  | 22, _ => exact key 9 (by rw [hl]; decide) 22 ⟨inb_S2176x128_S64x128_1496_0, rfl⟩
  | 23, _ => exact key 8 (by rw [hl]; decide) 23 ⟨inb_S2176x128_S64x128_1564_0, rfl⟩
  | 24, _ => exact key 7 (by rw [hl]; decide) 24 ⟨inb_S2176x128_S64x128_1632_0, rfl⟩
  | 25, _ => exact key 6 (by rw [hl]; decide) 25 ⟨inb_S2176x128_S64x128_1700_0, rfl⟩
  | 26, _ => exact key 5 (by rw [hl]; decide) 26 ⟨inb_S2176x128_S64x128_1768_0, rfl⟩
  | 27, _ => exact key 4 (by rw [hl]; decide) 27 ⟨inb_S2176x128_S64x128_1836_0, rfl⟩
  | 28, _ => exact key 3 (by rw [hl]; decide) 28 ⟨inb_S2176x128_S64x128_1904_0, rfl⟩
  | 29, _ => exact key 2 (by rw [hl]; decide) 29 ⟨inb_S2176x128_S64x128_1972_0, rfl⟩
  | 30, _ => exact key 1 (by rw [hl]; decide) 30 ⟨inb_S2176x128_S64x128_2040_0, rfl⟩
  | 31, _ => exact key 0 (by rw [hl]; decide) 31 ⟨inb_S2176x128_S64x128_2108_0, rfl⟩
  | n + 32, h => exact absurd h (by omega)

/-- A strided load of the second scratch buffer reads row `a` of every token's product. -/
theorem s2_load (hx2 : HX2 P x2) (hx3 : HX3 Q x3) (a : Nat) (ha : a < 64) (inb) (t : Fin 32) (l : Fin 128) :
    arg11.view.readCov (kernelRun0_A.sl.HS1_32 (F := Ideal) c arg1 harg1 arg2 harg2 arg3 harg3 arg4 harg4 arg10 x0 x1 x2 x3) (⟨![a, 0], S32x128.size, ![68, 1], inb⟩ : LoadRect S2176x128) (ix2 t l)
      = Zk (at2 (k0_pay5 (F := Ideal) x0 x1)) P Q t.val a l.val := by
  rw [View.readCov_eq_canon']
  obtain ⟨p, hp, inb', hp1⟩ := s2_rects c arg1 harg1 arg2 harg2 arg3 harg3 arg4 harg4 arg10 x0 x1 (x2 := x2) (x3 := x3) t.val t.isLt
  have hy : (⟨![a, 0], S32x128.size, ![68, 1], inb⟩ : LoadRect S2176x128).idx (ix2 t l)
      = (Rect.unit (s := S2176x128) ![68 * t.val, 0] S64x128.size inb').idx (ix2 ⟨a, ha⟩ l) := by
    funext b
    match b with
    | 0 => exact Fin.ext (by show a + 68 * t.val = 68 * t.val + 1 * a; omega)
    | 1 => exact Fin.ext (by show 0 + 1 * l.val = 0 + 1 * l.val; rfl)
  show View.canon _ _ = _
  rw [View.canon_apply_of_pieces (G2 (Zk (at2 (k0_pay5 (F := Ideal) x0 x1)) P Q)) _ (s2_pieces c arg1 harg1 arg2 harg2 arg3 harg3 arg4 harg4 arg10 x0 x1 hx2 hx3).mem _
    ⟨p, hp, by rw [hy, hp1]; exact LoadRect.idx_mem _ _⟩]
  unfold G2
  have e0 : ((⟨![a, 0], S32x128.size, ![68, 1], inb⟩ : LoadRect S2176x128).idx (ix2 t l) 0).val = a + 68 * t.val := rfl
  have e1 : ((⟨![a, 0], S32x128.size, ![68, 1], inb⟩ : LoadRect S2176x128).idx (ix2 t l) 1).val = 0 + 1 * l.val := rfl
  rw [e0, e1, show (a + 68 * t.val) / 68 = t.val by omega, show (a + 68 * t.val) % 68 = a by omega, Nat.zero_add, Nat.one_mul]

end Cert.KernelIdeal.Val
end
end
-- ==== Proof.Q1.lean ====
/- Scale, zero point and codes of 32 tokens from the rows of their products, and the packing of the codes into tiles of 128 channels. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.S2
public import Idealize.ShloMosaic.Lib.BitcastFour
public import Idealize.ShloMosaic.PureOps.Ideal.Laws

@[expose] public section

set_option maxRecDepth 16384

noncomputable section

namespace Cert.KernelIdeal.Val

open Cert.KernelIdeal Cert.KernelIdeal.Gen Idealize.ShloMosaic Idealize.ShloMosaic.TcCoe Idealize.SL.Sem

/-- The smallest of the first rows, element by element. -/
def mnk (v : ℕ → FVec Ideal S32x128 .f32) : ℕ → FVec Ideal S32x128 .f32
  | 0 => v 0
  | n + 1 => minimumf (mnk v n) (v (n + 1))

/-- The largest of the first rows, element by element. -/
def mxk (v : ℕ → FVec Ideal S32x128 .f32) : ℕ → FVec Ideal S32x128 .f32
  | 0 => v 0
  | n + 1 => maximumf (mxk v n) (v (n + 1))

/-- The running smallest row at an index is the smallest of the rows' entries. -/
theorem mnk_apply (v : ℕ → FVec Ideal S32x128 .f32) (n : ℕ) (y : S32x128.Idx) :
    (mnk v n y : EReal) = (Finset.range (n + 1)).inf fun a => (v a y : EReal) := by
  induction n with
  | zero => simp [mnk]
  | succ n ih =>
    rw [Finset.range_add_one, Finset.inf_insert, ← ih, inf_comm]
    rfl

/-- The running largest row at an index is the largest of the rows' entries. -/
theorem mxk_apply (v : ℕ → FVec Ideal S32x128 .f32) (n : ℕ) (y : S32x128.Idx) :
    (mxk v n y : EReal) = (Finset.range (n + 1)).sup fun a => (v a y : EReal) := by
  induction n with
  | zero => simp [mxk]
  | succ n ih =>
    rw [Finset.range_add_one, Finset.sup_insert, ← ih, sup_comm]
    rfl

/-- The smallest over all lanes, started from plus infinity, is the infimum. -/
theorem fold_min_inf {ι : Type} [Fintype ι] (f : ι → EReal) :
    Finset.fold min (Ideal.ofBits FTy.f32 2139095040#32) f Finset.univ = ⨅ i, f i := by
  have h : Ideal.ofBits FTy.f32 2139095040#32 = ⊤ := by simp [Ideal.ofBits, Ideal.ieee]
  rw [h, ← Finset.inf_univ_eq_iInf]
  rfl

/-- The largest over all lanes, started from minus infinity, is the supremum. -/
theorem fold_max_sup {ι : Type} [Fintype ι] (f : ι → EReal) :
    Finset.fold max (Ideal.ofBits FTy.f32 4286578688#32) f Finset.univ = ⨆ i, f i := by
  have h : Ideal.ofBits FTy.f32 4286578688#32 = ⊥ := by simp [Ideal.ofBits, Ideal.ieee]
  rw [h, ← Finset.sup_univ_eq_iSup]
  rfl

/-- The smallest and largest channel of a token. -/
def qmn (z : ℕ → EReal) : EReal := ⨅ n : Fin 7168, z n.val
/-- The largest of a token's 7168 channels. -/
def qmx (z : ℕ → EReal) : EReal := ⨆ n : Fin 7168, z n.val

/-- A token's scale, zero point and codes from its smallest and largest channel. -/
def qsc (al mn mx : EReal) : EReal :=
  if al * mx = al * mn then 1 else Ideal.div (al * mx - al * mn) (Ideal.ofBits FTy.f32 1097859072#32)
/-- A token's zero point, as a number. -/
def qzf (al mn mx : EReal) : EReal :=
  min (Ideal.ofBits FTy.f32 1097859072#32) (max 0 (Ideal.liftRound Ideal.roundHalfEven (Ideal.div (0 - al * mn) (qsc al mn mx))))
/-- The code of one channel from scale, zero point and value. -/
def qcode (sc zf z : EReal) : BitVec 8 :=
  (FloatOps.fptosi (F := Ideal) (φ := .f32) 32 (min (Ideal.ofBits FTy.f32 1097859072#32) (max 0 (Ideal.liftRound Ideal.roundHalfEven (Ideal.div z sc) + zf)) : EReal)).setWidth 8

/-- Smallest over lanes and rows is smallest over channels, the lanes past 112 repeating lane 0. -/
theorem qmn_eq (Z : ℕ → ℕ → EReal) (hd : ∀ a l, 112 ≤ l → l < 128 → Z a l = Z a 0) :
    (⨅ l : Fin 128, (Finset.range 64).inf fun a => Z a l.val) = qmn fun n => Z (n / 112) (n % 112) := by
  unfold qmn
  apply le_antisymm
  · refine le_iInf fun n => ?_
    refine (iInf_le _ ⟨n.val % 112, by omega⟩).trans ?_
    exact Finset.inf_le (f := fun a => Z a (n.val % 112)) (Finset.mem_range.2 (by have := n.isLt; omega : n.val / 112 < 64))
  · refine le_iInf fun l => Finset.le_inf fun a ha => ?_
    have ha := Finset.mem_range.1 ha
    by_cases hl : l.val < 112
    · refine (iInf_le _ ⟨112 * a + l.val, by omega⟩).trans (le_of_eq ?_)
      show Z ((112 * a + l.val) / 112) ((112 * a + l.val) % 112) = _
      rw [show (112 * a + l.val) / 112 = a by omega, show (112 * a + l.val) % 112 = l.val by omega]
    · refine (iInf_le _ ⟨112 * a, by omega⟩).trans (le_of_eq ?_)
      show Z ((112 * a) / 112) ((112 * a) % 112) = _
      rw [show (112 * a) / 112 = a by omega, show (112 * a) % 112 = 0 by omega, hd a l.val (by omega) l.isLt]

/-- Largest over lanes and rows is largest over channels, the lanes past 112 repeating lane 0. -/
theorem qmx_eq (Z : ℕ → ℕ → EReal) (hd : ∀ a l, 112 ≤ l → l < 128 → Z a l = Z a 0) :
    (⨆ l : Fin 128, (Finset.range 64).sup fun a => Z a l.val) = qmx fun n => Z (n / 112) (n % 112) := by
  unfold qmx
  apply le_antisymm
  · refine iSup_le fun l => Finset.sup_le fun a ha => ?_
    have ha := Finset.mem_range.1 ha
    by_cases hl : l.val < 112
    · refine (le_of_eq ?_).trans (le_iSup (fun n : Fin 7168 => Z (n.val / 112) (n.val % 112)) ⟨112 * a + l.val, by omega⟩)
      show _ = Z ((112 * a + l.val) / 112) ((112 * a + l.val) % 112)
      rw [show (112 * a + l.val) / 112 = a by omega, show (112 * a + l.val) % 112 = l.val by omega]
    · refine (le_of_eq ?_).trans (le_iSup (fun n : Fin 7168 => Z (n.val / 112) (n.val % 112)) ⟨112 * a, by omega⟩)
      show _ = Z ((112 * a) / 112) ((112 * a) % 112)
      rw [show (112 * a) / 112 = a by omega, show (112 * a) % 112 = 0 by omega, hd a l.val (by omega) l.isLt]
  · refine iSup_le fun n => ?_
    refine le_trans ?_ (le_iSup _ ⟨n.val % 112, by omega⟩)
    exact Finset.le_sup (f := fun a => Z a (n.val % 112)) (Finset.mem_range.2 (by have := n.isLt; omega : n.val / 112 < 64))

section
variable (v : ℕ → FVec Ideal S32x128 .f32) (al : EReal)

/-- The scale of 32 tokens, from the 64 rows of their products. -/
def scv : FVec Ideal S32x1 .f32 := k0_pay125 (F := Ideal) (mnk v 61) (mxk v 61) (v 62) (v 63) al
/-- The zero points of 32 tokens, as numbers. -/
def zfv : FVec Ideal S32x1 .f32 := k0_pay126 (F := Ideal) (mnk v 61) (mxk v 61) (v 62) (v 63) al
/-- The zero points of 32 tokens, as integers. -/
def zpv : IVec S32x1 32 := k0_pay127 (F := Ideal) (mnk v 61) (mxk v 61) (v 62) (v 63) al
/-- The scales, spread over 128 lanes. -/
def sbv : FVec Ideal S32x128 .f32 := k0_pay128 (F := Ideal) (mnk v 61) (mxk v 61) (v 62) (v 63) al
/-- The zero points, spread over 128 lanes. -/
def zbv : FVec Ideal S32x128 .f32 := k0_pay129 (F := Ideal) (mnk v 61) (mxk v 61) (v 62) (v 63) al
/-- The zero points spread over 128 lanes, in the product's format. -/
def zhv : FVec Ideal S32x128 .bf16 := k0_pay130 (F := Ideal) (mnk v 61) (mxk v 61) (v 62) (v 63) al

variable (Z : ℕ → ℕ → ℕ → EReal) (hv : ∀ a, a < 64 → ∀ (t : Fin 32) (l : Fin 128), v a (ix2 t l) = Z t.val a l.val)
  (hd : ∀ t a l, 112 ≤ l → l < 128 → Z t a l = Z t a 0)
include hv hd

/-- The lower clip value of a token. -/
theorem lov (t : Fin 32) : k0_pay124 (F := Ideal) (mnk v 61) (v 62) (v 63) al (ix2 t 0) = al * qmn fun n => Z t.val (n / 112) (n % 112) := by
  unfold k0_pay124
  pointwise
  rw [← qmn_eq _ (hd t.val), fold_min_inf]
  congr 1
  refine iInf_congr fun l => ?_
  have e := mnk_apply v 63 (ix2 t l)
  refine (show _ = (mnk v 63 (ix2 t l) : EReal) from rfl).trans (e.trans ?_)
  exact Finset.inf_congr rfl fun a ha => hv a (Finset.mem_range.1 ha) t l

/-- The scale of a token. -/
theorem scv_apply (t : Fin 32) : scv v al (ix2 t 0) = qsc al (qmn fun n => Z t.val (n / 112) (n % 112)) (qmx fun n => Z t.val (n / 112) (n % 112)) := by
  have hmx : Finset.fold max (Ideal.ofBits FTy.f32 4286578688#32)
      (fun x : Fin 128 => (max (max (mxk v 61 (ix2 t x)) (v 62 (ix2 t x))) (v 63 (ix2 t x)) : EReal)) Finset.univ = qmx fun n => Z t.val (n / 112) (n % 112) := by
    rw [← qmx_eq _ (hd t.val), fold_max_sup]
    refine iSup_congr fun l => ?_
    have e := mxk_apply v 63 (ix2 t l)
    refine (show _ = (mxk v 63 (ix2 t l) : EReal) from rfl).trans (e.trans ?_)
    exact Finset.sup_congr rfl fun a ha => hv a (Finset.mem_range.1 ha) t l
  unfold scv k0_pay125
  pointwise
  rw [lov v al Z hv hd t]
  unfold qsc
  simp only [hmx]

/-- The zero point of a token. -/
theorem zfv_apply (t : Fin 32) : zfv v al (ix2 t 0) = qzf al (qmn fun n => Z t.val (n / 112) (n % 112)) (qmx fun n => Z t.val (n / 112) (n % 112)) := by
  have e := scv_apply v al Z hv hd t
  unfold scv at e
  unfold zfv k0_pay126
  pointwise
  rw [lov v al Z hv hd t, e]
  rfl

/-- The integer zero point of a token. -/
theorem zpv_apply (t : Fin 32) : zpv v al (ix2 t 0) = FloatOps.fptosi (F := Ideal) (φ := .f32) 32 (qzf al (qmn fun n => Z t.val (n / 112) (n % 112)) (qmx fun n => Z t.val (n / 112) (n % 112))) := by
  have e := zfv_apply v al Z hv hd t
  unfold zfv at e
  unfold zpv k0_pay127
  pointwise
  rw [e]

/-- The spread scale is the token's scale in every lane. -/
theorem sbv_apply (t : Fin 32) (l : Fin 128) : sbv v al (ix2 t l) = qsc al (qmn fun n => Z t.val (n / 112) (n % 112)) (qmx fun n => Z t.val (n / 112) (n % 112)) := by
  rw [← scv_apply v al Z hv hd t]
  unfold sbv k0_pay128 scv
  pointwise

/-- The spread zero point is the token's in every lane. -/
theorem zbv_apply (t : Fin 32) (l : Fin 128) : zbv v al (ix2 t l) = qzf al (qmn fun n => Z t.val (n / 112) (n % 112)) (qmx fun n => Z t.val (n / 112) (n % 112)) := by
  rw [← zfv_apply v al Z hv hd t]
  unfold zbv k0_pay129 zfv
  pointwise

/-- The spread zero point in the product's format is the token's in every lane. -/
theorem zhv_apply (t : Fin 32) (l : Fin 128) : zhv v al (ix2 t l) = qzf al (qmn fun n => Z t.val (n / 112) (n % 112)) (qmx fun n => Z t.val (n / 112) (n % 112)) := by
  rw [← zbv_apply v al Z hv hd t l]
  unfold zbv zhv k0_pay130
  pointwise
end

/-- A row's codes. -/
def cb (sb zb v : FVec Ideal S32x128 .f32) : IVec S32x128 8 :=
  trunci 8 (fptosi 32 (minimumf (broadcast S32x128 (Scalar.ofBits .f32 0x41700000#32)) (maximumf (broadcast S32x128 (Scalar.ofBits .f32 0x00000000#32))
    (addf (roundeven (divf v sb)) zb)))) natLt_8_32

/-- The codes of one row at an index. -/
theorem cb_apply (sb zb v : FVec Ideal S32x128 .f32) (t : Fin 32) (l : Fin 128) :
    cb sb zb v (ix2 t l) = qcode (sb (ix2 t l)) (zb (ix2 t l)) (v (ix2 t l)) := by
  unfold cb qcode
  pointwise

/-- A row's codes four to a word, turned so that lane 0 stands where the row starts among its group's lanes. -/
def qw (sb zb : FVec Ideal S32x128 .f32) (v : ℕ → FVec Ideal S32x128 .f32) (a : ℕ) : IVec S8x128 32 :=
  if a % 8 = 0 then bitcast S8x128 32 (cb sb zb (v a)) bitcasts_S32x128_w8_S8x128_w32
  else dynamicRotate 1 (BitVec.ofNat 32 (128 - 16 * (a % 8))) none (bitcast S8x128 32 (cb sb zb (v a)) bitcasts_S32x128_w8_S8x128_w32) rotates_S8x128_d1

/-- Tile `m` of a group of eight rows: 128 channels of the codes. -/
def tl (sb zb : FVec Ideal S32x128 .f32) (v : ℕ → FVec Ideal S32x128 .f32) (g m : ℕ) : IVec S32x128 8 :=
  bitcast S32x128 8 (select (cmpi .slt (iota Kind.tc S8x128 32 [1] iota_S8x128_d1_w32) (broadcast S8x128 (BitVec.ofNat 32 (128 - 16 * (m + 1)))))
    (qw sb zb v (8 * g + m)) (qw sb zb v (8 * g + m + 1))) bitcasts_S8x128_w32_S32x128_w8

/-- A byte of the unpacked words is its quarter of the word. -/
theorem byte_apply (w : IVec S8x128 32) (t : Fin 32) (l : Fin 128) (q : ℕ) (hq : q < 8) :
    (bitcast S32x128 8 w bitcasts_S8x128_w32_S32x128_w8 (ix2 t l)).getLsbD q
      = (w (ix2 ⟨t.val / 4, by omega⟩ l)).getLsbD (8 * (t.val % 4) + q) := by
  rw [bitcast_getLsbD w _ _ q hq (by decide)]
  have key : ∀ (i i' : S8x128.Idx) (p p' : ℕ), i = i' → p = p' → (w i).getLsbD p = (w i').getLsbD p' := by
    rintro i _ p _ rfl rfl; rfl
  refine key _ _ _ _ ?_ (by show (t.val * 8 + q) % 32 = _; omega)
  funext b
  match b with
  | 0 => exact Fin.ext (by show (t.val * 8 + q) / 32 = t.val / 4; omega)
  | 1 => rfl

/-- A quarter of a packed word is the byte it was packed from. -/
theorem word_apply (x : IVec S32x128 8) (t : Fin 32) (j : Fin 128) (q : ℕ) (hq : q < 8) :
    (bitcast S8x128 32 x bitcasts_S32x128_w8_S8x128_w32 (ix2 ⟨t.val / 4, by omega⟩ j)).getLsbD (8 * (t.val % 4) + q) = (x (ix2 t j)).getLsbD q := by
  refine (bitcast_8_32_getLsbD_ix2 (R := 32) (r := 8) (n := 128) x bitcasts_S32x128_w8_S8x128_w32 ⟨t.val / 4, by omega⟩ j (8 * (t.val % 4) + q) (by omega) t
    (by show t.val = 4 * (t.val / 4) + _; omega)).trans ?_
  rw [show (8 * (t.val % 4) + q) % 8 = q by omega]
  rfl

/-- The lane rotation at an index. -/
theorem rot_apply (x : IVec S8x128 32) (k : ℕ) (hk : 0 < k) (hk8 : k < 8) (r : Fin 8) (l j : Fin 128) (hj : j.val = (l.val + 16 * k) % 128) :
    dynamicRotate 1 (BitVec.ofNat 32 (128 - 16 * k)) none x rotates_S8x128_d1 (ix2 r l) = x (ix2 r j) := by
  pointwise
  congr 1
  congr 1
  refine Fin.ext ?_
  rw [hj]
  dsimp only
  simp only [BitVec.toNat_ofNat]
  have hl := l.isLt
  omega

/-- A quarter of a rotated word is the code of the lane it came from. -/
theorem qw_apply (sb zb : FVec Ideal S32x128 .f32) (v : ℕ → FVec Ideal S32x128 .f32) (g k : ℕ) (hk : k < 8) (t : Fin 32) (l j : Fin 128)
    (hj : j.val = (l.val + 16 * k) % 128) (q : ℕ) (hq : q < 8) :
    (qw sb zb v (8 * g + k) (ix2 ⟨t.val / 4, by omega⟩ l)).getLsbD (8 * (t.val % 4) + q) = (cb sb zb (v (8 * g + k)) (ix2 t j)).getLsbD q := by
  unfold qw
  rw [show (8 * g + k) % 8 = k by omega]
  split
  · rename_i h
    rw [word_apply _ _ _ _ hq, show l = j from Fin.ext (by have := l.isLt; omega)]
  · rename_i h
    rw [rot_apply _ k (by omega) hk _ l j hj, word_apply _ _ _ _ hq]

/-- The signed comparison of two lane numbers is the comparison of the numbers. -/
theorem slt_small (a b : ℕ) (ha : a < 128) (hb : b < 128) : IntOp.cmpi CmpIPredicate.slt (BitVec.ofNat 32 a) (BitVec.ofNat 32 b) = if a < b then 1#1 else 0#1 := by
  have h1 : (BitVec.ofNat 32 a).toInt = a := by rw [BitVec.toInt_ofNat']; simp [Int.bmod]; omega
  have h2 : (BitVec.ofNat 32 b).toInt = b := by rw [BitVec.toInt_ofNat']; simp [Int.bmod]; omega
  simp only [IntOp.cmpi, BitVec.slt, h1, h2, Nat.cast_lt]
  by_cases h : a < b
  · rw [if_pos h, decide_eq_true h]; rfl
  · rw [if_neg h, decide_eq_false h]; rfl

/-- A tile of 128 channels at a lane is the code of the row and lane that channel lies in. -/
theorem tl_apply (sb zb : FVec Ideal S32x128 .f32) (v : ℕ → FVec Ideal S32x128 .f32) (g m : ℕ) (hm : m < 7) (t : Fin 32) (l j : Fin 128) (a : ℕ)
    (ha : 112 * a + j.val = 896 * g + 128 * m + l.val) (hj : j.val < 112) :
    tl sb zb v g m (ix2 t l) = cb sb zb (v a) (ix2 t j) := by
  apply BitVec.eq_of_getLsbD_eq
  intro q hq
  unfold tl
  rw [byte_apply _ _ _ _ hq]
  have hl := l.isLt
  have hs : select (cmpi .slt (iota Kind.tc S8x128 32 [1] iota_S8x128_d1_w32) (broadcast S8x128 (BitVec.ofNat 32 (128 - 16 * (m + 1)))))
      (qw sb zb v (8 * g + m)) (qw sb zb v (8 * g + m + 1)) (ix2 ⟨t.val / 4, by omega⟩ l)
      = if l.val < 128 - 16 * (m + 1) then qw sb zb v (8 * g + m) (ix2 ⟨t.val / 4, by omega⟩ l) else qw sb zb v (8 * g + m + 1) (ix2 ⟨t.val / 4, by omega⟩ l) := by
    pointwise
    rw [slt_small _ _ hl (by omega)]
    split <;> rfl
  rw [hs]
  split
  · rename_i h
    obtain rfl : a = 8 * g + m := by omega
    exact qw_apply sb zb v g m (by omega) t l j (by omega) q hq
  · rename_i h
    obtain rfl : a = 8 * g + (m + 1) := by omega
    exact qw_apply sb zb v g (m + 1) (by omega) t l j (by omega) q hq

end Cert.KernelIdeal.Val
end
end
-- ==== Proof.Q2.lean ====
/- What the transform stores at one grid point: the codes, their shifted copy for the product, the scales and the zero points. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Q1

@[expose] public section

set_option maxRecDepth 16384

noncomputable section

namespace Cert.KernelIdeal.Val

open Cert.KernelIdeal Cert.KernelIdeal.Gen Idealize.ShloMosaic Idealize.ShloMosaic.TcCoe Idealize.SL.Sem

open View

variable (c : Dev nD) (i : grid0.Coords) (arg1 : Memref sig .tc .vmem S32x7168 .bf16) (harg1 : arg1.IsWhole)
  (arg2 : Memref sig .tc .vmem S1x7168 .f32) (harg2 : arg2.IsWhole) (arg3 : Memref sig .tc .vmem S4x384x256 .bf16) (harg3 : arg3.IsWhole)
  (arg4 : Memref sig .tc .vmem S256x256 .bf16) (harg4 : arg4.IsWhole) (arg5 : Memref sig .tc .smem S1x1 .f32) (harg5 : arg5.IsWhole)
  (arg6 : Memref sig .tc .vmem S32x7168 .i8) (harg6 : arg6.IsWhole) (arg7 : Memref sig .tc .vmem S32x7168 .fp8e4m3) (harg7 : arg7.IsWhole)
  (arg8 : Memref sig .tc .vmem S32x1 .f32) (harg8 : arg8.IsWhole) (arg9 : Memref sig .tc .vmem S32x1 .i32) (harg9 : arg9.IsWhole)
  (arg10 : Memref sig .tc .vmem S1152x2x128 .bf16) (harg10 : arg10.IsWhole) (arg11 : Memref sig .tc .vmem S2176x128 .f32) (harg11 : arg11.IsWhole)
  (x0 : Vec Ideal S32x7168 .bf16) (x1 : Vec Ideal S1x7168 .f32) (x2 : Vec Ideal S4x384x256 .bf16) (x3 : Vec Ideal S256x256 .bf16) (x4 : Vec Ideal S1x1 .f32)

/-- The strided load of row `a` stays within the buffer. -/
theorem inbrow (a : ℕ) (ha : a < 64) : ∀ b, S32x128.size b = 0 ∨ (![a, 0] : Fin 2 → Nat) b + (![68, 1] : Fin 2 → Nat) b * (S32x128.size b - 1) < S2176x128.size b := by
  intro b
  match b with
  | 0 => exact Or.inr (by show a + 68 * (32 - 1) < 2176; omega)
  | 1 => exact Or.inr (by show 0 + 1 * (128 - 1) < 128; omega)

/-- Row `a` of the 32 tokens' products, as the transform loads it. -/
def vrow (a : ℕ) : FVec Ideal S32x128 .f32 :=
  if h : a < 64 then arg11.view.readCov (kernelRun0_A.sl.HS1_32 (F := Ideal) c arg1 harg1 arg2 harg2 arg3 harg3 arg4 harg4 arg10 x0 x1 x2 x3)
    (⟨![a, 0], S32x128.size, ![68, 1], inbrow a h⟩ : LoadRect S2176x128) else fun _ => 0

/-- The running smallest row the transform computes. -/
theorem r32_eq : kernelRun0_A.sl.r_32 (F := Ideal) c arg1 harg1 arg2 harg2 arg3 harg3 arg4 harg4 arg10 arg11 x0 x1 x2 x3 = mnk (vrow c arg1 harg1 arg2 harg2 arg3 harg3 arg4 harg4 arg10 arg11 x0 x1 x2 x3) 61 := rfl

/-- The running largest row the transform computes. -/
theorem r33_eq : kernelRun0_A.sl.r_33 (F := Ideal) c arg1 harg1 arg2 harg2 arg3 harg3 arg4 harg4 arg10 arg11 x0 x1 x2 x3 = mxk (vrow c arg1 harg1 arg2 harg2 arg3 harg3 arg4 harg4 arg10 arg11 x0 x1 x2 x3) 61 := rfl

/-- The spread scales the transform computes. -/
theorem r35_eq : (kernelRun0_A.sl.r_35 (F := Ideal) c arg1 harg1 arg2 harg2 arg3 harg3 arg4 harg4 arg5 harg5 arg10 arg11 x0 x1 x2 x3 x4) = sbv (vrow c arg1 harg1 arg2 harg2 arg3 harg3 arg4 harg4 arg10 arg11 x0 x1 x2 x3) (kernelRun0_A.sl.r_34 (F := Ideal) c arg5 harg5 x4) := by
  unfold kernelRun0_A.sl.r_35 sbv
  rw [r32_eq, r33_eq]
  rfl
/-- The spread zero points the transform computes. -/
theorem r36_eq : (kernelRun0_A.sl.r_36 (F := Ideal) c arg1 harg1 arg2 harg2 arg3 harg3 arg4 harg4 arg5 harg5 arg10 arg11 x0 x1 x2 x3 x4) = zbv (vrow c arg1 harg1 arg2 harg2 arg3 harg3 arg4 harg4 arg10 arg11 x0 x1 x2 x3) (kernelRun0_A.sl.r_34 (F := Ideal) c arg5 harg5 x4) := by
  unfold kernelRun0_A.sl.r_36 zbv
  rw [r32_eq, r33_eq]
  rfl
/-- The spread zero points in the product's format. -/
theorem r37_eq : (kernelRun0_A.sl.r_37 (F := Ideal) c arg1 harg1 arg2 harg2 arg3 harg3 arg4 harg4 arg5 harg5 arg10 arg11 x0 x1 x2 x3 x4) = zhv (vrow c arg1 harg1 arg2 harg2 arg3 harg3 arg4 harg4 arg10 arg11 x0 x1 x2 x3) (kernelRun0_A.sl.r_34 (F := Ideal) c arg5 harg5 x4) := by
  unfold kernelRun0_A.sl.r_37 zhv
  rw [r32_eq, r33_eq]
  rfl

/-- The loaded clip factor. -/
theorem al_eq : (kernelRun0_A.sl.r_34 (F := Ideal) c arg5 harg5 x4) = x4 (ix2 0 0) := by
  unfold kernelRun0_A.sl.r_34
  rw [View.readAt_eq_ld, harg5.read_unread, View.ld_apply]
  congr 1
  funext b
  match b with
  | 0 => rfl
  | 1 => rfl

variable {x2} {x3} {P Q : ℕ → ℕ → EReal}

/-- A loaded row at an index is the transformed activation. -/
theorem vrow_apply (hx2 : HX2 P x2) (hx3 : HX3 Q x3) (a : ℕ) (ha : a < 64) (t : Fin 32) (l : Fin 128) :
    vrow c arg1 harg1 arg2 harg2 arg3 harg3 arg4 harg4 arg10 arg11 x0 x1 x2 x3 a (ix2 t l) = (Zk (at2 (k0_pay5 (F := Ideal) x0 x1)) P Q) t.val a l.val := by
  unfold vrow
  rw [dif_pos ha]
  exact s2_load c arg1 harg1 arg2 harg2 arg3 harg3 arg4 harg4 arg10 arg11 x0 x1 hx2 hx3 a ha _ t l

/-- Past lane 112 the products repeat lane 0 wherever the second factor does. -/
theorem Zk_dup {X P Q : ℕ → ℕ → EReal} (hP : ∀ p l, 112 ≤ l → l < 128 → P p l = P p 0) (t a l : ℕ) (h1 : 112 ≤ l) (h2 : l < 128) : Zk X P Q t a l = Zk X P Q t a 0 := by
  unfold Zk Yk
  simp only [hP _ l h1 h2]

/-- The codes of 32 tokens, from their products. -/
def Gc (al : EReal) (Z : ℕ → ℕ → ℕ → EReal) (t n : ℕ) : BitVec 8 :=
  qcode (qsc al (qmn fun n => Z t (n / 112) (n % 112)) (qmx fun n => Z t (n / 112) (n % 112)))
    (qzf al (qmn fun n => Z t (n / 112) (n % 112)) (qmx fun n => Z t (n / 112) (n % 112))) (Z t (n / 112) (n % 112))

/-- The scale of a token. -/
def Gs (al : EReal) (Z : ℕ → ℕ → ℕ → EReal) (t : ℕ) : EReal :=
  qsc al (qmn fun n => Z t (n / 112) (n % 112)) (qmx fun n => Z t (n / 112) (n % 112))

/-- The zero point of a token. -/
def Gz (al : EReal) (Z : ℕ → ℕ → ℕ → EReal) (t : ℕ) : EReal :=
  qzf al (qmn fun n => Z t (n / 112) (n % 112)) (qmx fun n => Z t (n / 112) (n % 112))

/-- The codes less the zero point, as the product takes them. -/
def Gl (al : EReal) (Z : ℕ → ℕ → ℕ → EReal) (t n : ℕ) : EReal :=
  (FloatOps.sitofp (F := Ideal) .bf16 (Gc al Z t n) : EReal) - Gz al Z t

variable (hP : ∀ p l, 112 ≤ l → l < 128 → P p l = P p 0) (hx2 : HX2 P x2) (hx3 : HX3 Q x3)
include hP hx2 hx3

/-- One store of 128 codes writes its block of the codes. -/
theorem key5 (g m : ℕ) (hg : g < 8) (hm : m < 7) (o : ℕ) (ho : o = 896 * g + 128 * m) (inb) (y : S32x128.Idx) :
    tl (kernelRun0_A.sl.r_35 (F := Ideal) c arg1 harg1 arg2 harg2 arg3 harg3 arg4 harg4 arg5 harg5 arg10 arg11 x0 x1 x2 x3 x4) (kernelRun0_A.sl.r_36 (F := Ideal) c arg1 harg1 arg2 harg2 arg3 harg3 arg4 harg4 arg5 harg5 arg10 arg11 x0 x1 x2 x3 x4) (vrow c arg1 harg1 arg2 harg2 arg3 harg3 arg4 harg4 arg10 arg11 x0 x1 x2 x3) g m y
      = (fun u : S32x7168.Idx => Gc (x4 (ix2 0 0)) (Zk (at2 (k0_pay5 (F := Ideal) x0 x1)) P Q) (u 0).val (u 1).val) ((Rect.unit (s := S32x7168) ![0, o] S32x128.size inb).emb y) := by
  idx_vars y
  obtain ⟨t, ht'⟩ : ∃ t : Fin 32, t = y0 := ⟨_, rfl⟩
  obtain ⟨l, hl'⟩ : ∃ t : Fin 128, t = y1 := ⟨_, rfl⟩
  rw [← ht', ← hl']
  have hl := l.isLt
  have e0 : ((Rect.unit (s := S32x7168) ![0, o] S32x128.size inb).emb (ix2 t l) 0).val = 0 + 1 * t.val := rfl
  have e1 : ((Rect.unit (s := S32x7168) ![0, o] S32x128.size inb).emb (ix2 t l) 1).val = o + 1 * l.val := rfl
  beta_reduce
  rw [e0, e1, tl_apply _ _ _ g m hm t l ⟨(o + l.val) % 112, by omega⟩ ((o + l.val) / 112) (by dsimp only; omega) (by dsimp only; omega), cb_apply,
    r35_eq, r36_eq, al_eq, sbv_apply _ _ (Zk (at2 (k0_pay5 (F := Ideal) x0 x1)) P Q) (vrow_apply c arg1 harg1 arg2 harg2 arg3 harg3 arg4 harg4 arg10 arg11 x0 x1 hx2 hx3) (Zk_dup hP),
    zbv_apply _ _ (Zk (at2 (k0_pay5 (F := Ideal) x0 x1)) P Q) (vrow_apply c arg1 harg1 arg2 harg2 arg3 harg3 arg4 harg4 arg10 arg11 x0 x1 hx2 hx3) (Zk_dup hP),
    vrow_apply c arg1 harg1 arg2 harg2 arg3 harg3 arg4 harg4 arg10 arg11 x0 x1 hx2 hx3 _ (by omega)]
  unfold Gc
  rw [Nat.zero_add, Nat.one_mul, Nat.one_mul]

/-- One store of 128 shifted codes writes its block of them. -/
theorem key6 (g m : ℕ) (hg : g < 8) (hm : m < 7) (o : ℕ) (ho : o = 896 * g + 128 * m) (inb) (y : S32x128.Idx) :
    (truncf .fp8e4m3 (subf (sitofp .bf16 (tl (kernelRun0_A.sl.r_35 (F := Ideal) c arg1 harg1 arg2 harg2 arg3 harg3 arg4 harg4 arg5 harg5 arg10 arg11 x0 x1 x2 x3 x4) (kernelRun0_A.sl.r_36 (F := Ideal) c arg1 harg1 arg2 harg2 arg3 harg3 arg4 harg4 arg5 harg5 arg10 arg11 x0 x1 x2 x3 x4) (vrow c arg1 harg1 arg2 harg2 arg3 harg3 arg4 harg4 arg10 arg11 x0 x1 x2 x3) g m)) (kernelRun0_A.sl.r_37 (F := Ideal) c arg1 harg1 arg2 harg2 arg3 harg3 arg4 harg4 arg5 harg5 arg10 arg11 x0 x1 x2 x3 x4)) bitsLt_fp8e4m3_bf16 : FVec Ideal S32x128 .fp8e4m3) y
      = (fun u : S32x7168.Idx => Gl (x4 (ix2 0 0)) (Zk (at2 (k0_pay5 (F := Ideal) x0 x1)) P Q) (u 0).val (u 1).val) ((Rect.unit (s := S32x7168) ![0, o] S32x128.size inb).emb y) := by
  have e5 := key5 c arg1 harg1 arg2 harg2 arg3 harg3 arg4 harg4 arg5 harg5 arg10 arg11 x0 x1 x4 hP hx2 hx3 g m hg hm o ho inb y
  beta_reduce at e5 ⊢
  idx_vars y
  obtain ⟨t, ht'⟩ : ∃ t : Fin 32, t = y0 := ⟨_, rfl⟩
  obtain ⟨l, hl'⟩ : ∃ t : Fin 128, t = y1 := ⟨_, rfl⟩
  rw [← ht', ← hl'] at e5 ⊢
  have e0 : ((Rect.unit (s := S32x7168) ![0, o] S32x128.size inb).emb (ix2 t l) 0).val = 0 + 1 * t.val := rfl
  have hz := zhv_apply _ (x4 (ix2 0 0)) (Zk (at2 (k0_pay5 (F := Ideal) x0 x1)) P Q) (vrow_apply c arg1 harg1 arg2 harg2 arg3 harg3 arg4 harg4 arg10 arg11 x0 x1 hx2 hx3) (Zk_dup hP) t l
  unfold Gl
  rw [← e5, e0, Nat.zero_add, Nat.one_mul]
  unfold Gz
  rw [← hz, r37_eq, al_eq]
  rfl

set_option maxHeartbeats 8000000 in
/-- All stores of the codes write the one array of codes. -/
theorem codes_pieces : View.PiecesOf (fun u : S32x7168.Idx => (Gc (x4 (ix2 0 0)) (Zk (at2 (k0_pay5 (F := Ideal) x0 x1)) P Q) (u 0).val (u 1).val : BitVec 8))
    (kernelRun0_A (F := Ideal) c i arg1 harg1 arg2 harg2 arg3 harg3 arg4 harg4 arg5 harg5 arg6 harg6 arg7 harg7 arg8 harg8 arg9 harg9 arg10 harg10 arg11 harg11 x0 x1 x2 x3 x4).1 :=
  ⟨fun y => key5 c arg1 harg1 arg2 harg2 arg3 harg3 arg4 harg4 arg5 harg5 arg10 arg11 x0 x1 x4 hP hx2 hx3 7 6 (by decide) (by decide) 7040 rfl inb_S32x7168_S32x128_0_7040 y, fun y => key5 c arg1 harg1 arg2 harg2 arg3 harg3 arg4 harg4 arg5 harg5 arg10 arg11 x0 x1 x4 hP hx2 hx3 7 5 (by decide) (by decide) 6912 rfl inb_S32x7168_S32x128_0_6912 y, fun y => key5 c arg1 harg1 arg2 harg2 arg3 harg3 arg4 harg4 arg5 harg5 arg10 arg11 x0 x1 x4 hP hx2 hx3 7 4 (by decide) (by decide) 6784 rfl inb_S32x7168_S32x128_0_6784 y, fun y => key5 c arg1 harg1 arg2 harg2 arg3 harg3 arg4 harg4 arg5 harg5 arg10 arg11 x0 x1 x4 hP hx2 hx3 7 3 (by decide) (by decide) 6656 rfl inb_S32x7168_S32x128_0_6656 y, fun y => key5 c arg1 harg1 arg2 harg2 arg3 harg3 arg4 harg4 arg5 harg5 arg10 arg11 x0 x1 x4 hP hx2 hx3 7 2 (by decide) (by decide) 6528 rfl inb_S32x7168_S32x128_0_6528 y, fun y => key5 c arg1 harg1 arg2 harg2 arg3 harg3 arg4 harg4 arg5 harg5 arg10 arg11 x0 x1 x4 hP hx2 hx3 7 1 (by decide) (by decide) 6400 rfl inb_S32x7168_S32x128_0_6400 y, fun y => key5 c arg1 harg1 arg2 harg2 arg3 harg3 arg4 harg4 arg5 harg5 arg10 arg11 x0 x1 x4 hP hx2 hx3 7 0 (by decide) (by decide) 6272 rfl inb_S32x7168_S32x128_0_6272 y, fun y => key5 c arg1 harg1 arg2 harg2 arg3 harg3 arg4 harg4 arg5 harg5 arg10 arg11 x0 x1 x4 hP hx2 hx3 6 6 (by decide) (by decide) 6144 rfl inb_S32x7168_S32x128_0_6144 y, fun y => key5 c arg1 harg1 arg2 harg2 arg3 harg3 arg4 harg4 arg5 harg5 arg10 arg11 x0 x1 x4 hP hx2 hx3 6 5 (by decide) (by decide) 6016 rfl inb_S32x7168_S32x128_0_6016 y, fun y => key5 c arg1 harg1 arg2 harg2 arg3 harg3 arg4 harg4 arg5 harg5 arg10 arg11 x0 x1 x4 hP hx2 hx3 6 4 (by decide) (by decide) 5888 rfl inb_S32x7168_S32x128_0_5888 y, fun y => key5 c arg1 harg1 arg2 harg2 arg3 harg3 arg4 harg4 arg5 harg5 arg10 arg11 x0 x1 x4 hP hx2 hx3 6 3 (by decide) (by decide) 5760 rfl inb_S32x7168_S32x128_0_5760 y, fun y => key5 c arg1 harg1 arg2 harg2 arg3 harg3 arg4 harg4 arg5 harg5 arg10 arg11 x0 x1 x4 hP hx2 hx3 6 2 (by decide) (by decide) 5632 rfl inb_S32x7168_S32x128_0_5632 y, fun y => key5 c arg1 harg1 arg2 harg2 arg3 harg3 arg4 harg4 arg5 harg5 arg10 arg11 x0 x1 x4 hP hx2 hx3 6 1 (by decide) (by decide) 5504 rfl inb_S32x7168_S32x128_0_5504 y, fun y => key5 c arg1 harg1 arg2 harg2 arg3 harg3 arg4 harg4 arg5 harg5 arg10 arg11 x0 x1 x4 hP hx2 hx3 6 0 (by decide) (by decide) 5376 rfl inb_S32x7168_S32x128_0_5376 y, fun y => key5 c arg1 harg1 arg2 harg2 arg3 harg3 arg4 harg4 arg5 harg5 arg10 arg11 x0 x1 x4 hP hx2 hx3 5 6 (by decide) (by decide) 5248 rfl inb_S32x7168_S32x128_0_5248 y, fun y => key5 c arg1 harg1 arg2 harg2 arg3 harg3 arg4 harg4 arg5 harg5 arg10 arg11 x0 x1 x4 hP hx2 hx3 5 5 (by decide) (by decide) 5120 rfl inb_S32x7168_S32x128_0_5120 y, fun y => key5 c arg1 harg1 arg2 harg2 arg3 harg3 arg4 harg4 arg5 harg5 arg10 arg11 x0 x1 x4 hP hx2 hx3 5 4 (by decide) (by decide) 4992 rfl inb_S32x7168_S32x128_0_4992 y, fun y => key5 c arg1 harg1 arg2 harg2 arg3 harg3 arg4 harg4 arg5 harg5 arg10 arg11 x0 x1 x4 hP hx2 hx3 5 3 (by decide) (by decide) 4864 rfl inb_S32x7168_S32x128_0_4864 y, fun y => key5 c arg1 harg1 arg2 harg2 arg3 harg3 arg4 harg4 arg5 harg5 arg10 arg11 x0 x1 x4 hP hx2 hx3 5 2 (by decide) (by decide) 4736 rfl inb_S32x7168_S32x128_0_4736 y, fun y => key5 c arg1 harg1 arg2 harg2 arg3 harg3 arg4 harg4 arg5 harg5 arg10 arg11 x0 x1 x4 hP hx2 hx3 5 1 (by decide) (by decide) 4608 rfl inb_S32x7168_S32x128_0_4608 y, fun y => key5 c arg1 harg1 arg2 harg2 arg3 harg3 arg4 harg4 arg5 harg5 arg10 arg11 x0 x1 x4 hP hx2 hx3 5 0 (by decide) (by decide) 4480 rfl inb_S32x7168_S32x128_0_4480 y, fun y => key5 c arg1 harg1 arg2 harg2 arg3 harg3 arg4 harg4 arg5 harg5 arg10 arg11 x0 x1 x4 hP hx2 hx3 4 6 (by decide) (by decide) 4352 rfl inb_S32x7168_S32x128_0_4352 y, fun y => key5 c arg1 harg1 arg2 harg2 arg3 harg3 arg4 harg4 arg5 harg5 arg10 arg11 x0 x1 x4 hP hx2 hx3 4 5 (by decide) (by decide) 4224 rfl inb_S32x7168_S32x128_0_4224 y, fun y => key5 c arg1 harg1 arg2 harg2 arg3 harg3 arg4 harg4 arg5 harg5 arg10 arg11 x0 x1 x4 hP hx2 hx3 4 4 (by decide) (by decide) 4096 rfl inb_S32x7168_S32x128_0_4096 y, fun y => key5 c arg1 harg1 arg2 harg2 arg3 harg3 arg4 harg4 arg5 harg5 arg10 arg11 x0 x1 x4 hP hx2 hx3 4 3 (by decide) (by decide) 3968 rfl inb_S32x7168_S32x128_0_3968 y, fun y => key5 c arg1 harg1 arg2 harg2 arg3 harg3 arg4 harg4 arg5 harg5 arg10 arg11 x0 x1 x4 hP hx2 hx3 4 2 (by decide) (by decide) 3840 rfl inb_S32x7168_S32x128_0_3840 y, fun y => key5 c arg1 harg1 arg2 harg2 arg3 harg3 arg4 harg4 arg5 harg5 arg10 arg11 x0 x1 x4 hP hx2 hx3 4 1 (by decide) (by decide) 3712 rfl inb_S32x7168_S32x128_0_3712 y, fun y => key5 c arg1 harg1 arg2 harg2 arg3 harg3 arg4 harg4 arg5 harg5 arg10 arg11 x0 x1 x4 hP hx2 hx3 4 0 (by decide) (by decide) 3584 rfl inb_S32x7168_S32x128_0_3584 y, fun y => key5 c arg1 harg1 arg2 harg2 arg3 harg3 arg4 harg4 arg5 harg5 arg10 arg11 x0 x1 x4 hP hx2 hx3 3 6 (by decide) (by decide) 3456 rfl inb_S32x7168_S32x128_0_3456 y, fun y => key5 c arg1 harg1 arg2 harg2 arg3 harg3 arg4 harg4 arg5 harg5 arg10 arg11 x0 x1 x4 hP hx2 hx3 3 5 (by decide) (by decide) 3328 rfl inb_S32x7168_S32x128_0_3328 y, fun y => key5 c arg1 harg1 arg2 harg2 arg3 harg3 arg4 harg4 arg5 harg5 arg10 arg11 x0 x1 x4 hP hx2 hx3 3 4 (by decide) (by decide) 3200 rfl inb_S32x7168_S32x128_0_3200 y, fun y => key5 c arg1 harg1 arg2 harg2 arg3 harg3 arg4 harg4 arg5 harg5 arg10 arg11 x0 x1 x4 hP hx2 hx3 3 3 (by decide) (by decide) 3072 rfl inb_S32x7168_S32x128_0_3072 y, fun y => key5 c arg1 harg1 arg2 harg2 arg3 harg3 arg4 harg4 arg5 harg5 arg10 arg11 x0 x1 x4 hP hx2 hx3 3 2 (by decide) (by decide) 2944 rfl inb_S32x7168_S32x128_0_2944 y, fun y => key5 c arg1 harg1 arg2 harg2 arg3 harg3 arg4 harg4 arg5 harg5 arg10 arg11 x0 x1 x4 hP hx2 hx3 3 1 (by decide) (by decide) 2816 rfl inb_S32x7168_S32x128_0_2816 y, fun y => key5 c arg1 harg1 arg2 harg2 arg3 harg3 arg4 harg4 arg5 harg5 arg10 arg11 x0 x1 x4 hP hx2 hx3 3 0 (by decide) (by decide) 2688 rfl inb_S32x7168_S32x128_0_2688 y, fun y => key5 c arg1 harg1 arg2 harg2 arg3 harg3 arg4 harg4 arg5 harg5 arg10 arg11 x0 x1 x4 hP hx2 hx3 2 6 (by decide) (by decide) 2560 rfl inb_S32x7168_S32x128_0_2560 y, fun y => key5 c arg1 harg1 arg2 harg2 arg3 harg3 arg4 harg4 arg5 harg5 arg10 arg11 x0 x1 x4 hP hx2 hx3 2 5 (by decide) (by decide) 2432 rfl inb_S32x7168_S32x128_0_2432 y, fun y => key5 c arg1 harg1 arg2 harg2 arg3 harg3 arg4 harg4 arg5 harg5 arg10 arg11 x0 x1 x4 hP hx2 hx3 2 4 (by decide) (by decide) 2304 rfl inb_S32x7168_S32x128_0_2304 y, fun y => key5 c arg1 harg1 arg2 harg2 arg3 harg3 arg4 harg4 arg5 harg5 arg10 arg11 x0 x1 x4 hP hx2 hx3 2 3 (by decide) (by decide) 2176 rfl inb_S32x7168_S32x128_0_2176 y, fun y => key5 c arg1 harg1 arg2 harg2 arg3 harg3 arg4 harg4 arg5 harg5 arg10 arg11 x0 x1 x4 hP hx2 hx3 2 2 (by decide) (by decide) 2048 rfl inb_S32x7168_S32x128_0_2048 y, fun y => key5 c arg1 harg1 arg2 harg2 arg3 harg3 arg4 harg4 arg5 harg5 arg10 arg11 x0 x1 x4 hP hx2 hx3 2 1 (by decide) (by decide) 1920 rfl inb_S32x7168_S32x128_0_1920 y, fun y => key5 c arg1 harg1 arg2 harg2 arg3 harg3 arg4 harg4 arg5 harg5 arg10 arg11 x0 x1 x4 hP hx2 hx3 2 0 (by decide) (by decide) 1792 rfl inb_S32x7168_S32x128_0_1792 y, fun y => key5 c arg1 harg1 arg2 harg2 arg3 harg3 arg4 harg4 arg5 harg5 arg10 arg11 x0 x1 x4 hP hx2 hx3 1 6 (by decide) (by decide) 1664 rfl inb_S32x7168_S32x128_0_1664 y, fun y => key5 c arg1 harg1 arg2 harg2 arg3 harg3 arg4 harg4 arg5 harg5 arg10 arg11 x0 x1 x4 hP hx2 hx3 1 5 (by decide) (by decide) 1536 rfl inb_S32x7168_S32x128_0_1536 y, fun y => key5 c arg1 harg1 arg2 harg2 arg3 harg3 arg4 harg4 arg5 harg5 arg10 arg11 x0 x1 x4 hP hx2 hx3 1 4 (by decide) (by decide) 1408 rfl inb_S32x7168_S32x128_0_1408 y, fun y => key5 c arg1 harg1 arg2 harg2 arg3 harg3 arg4 harg4 arg5 harg5 arg10 arg11 x0 x1 x4 hP hx2 hx3 1 3 (by decide) (by decide) 1280 rfl inb_S32x7168_S32x128_0_1280 y, fun y => key5 c arg1 harg1 arg2 harg2 arg3 harg3 arg4 harg4 arg5 harg5 arg10 arg11 x0 x1 x4 hP hx2 hx3 1 2 (by decide) (by decide) 1152 rfl inb_S32x7168_S32x128_0_1152 y, fun y => key5 c arg1 harg1 arg2 harg2 arg3 harg3 arg4 harg4 arg5 harg5 arg10 arg11 x0 x1 x4 hP hx2 hx3 1 1 (by decide) (by decide) 1024 rfl inb_S32x7168_S32x128_0_1024 y, fun y => key5 c arg1 harg1 arg2 harg2 arg3 harg3 arg4 harg4 arg5 harg5 arg10 arg11 x0 x1 x4 hP hx2 hx3 1 0 (by decide) (by decide) 896 rfl inb_S32x7168_S32x128_0_896 y, fun y => key5 c arg1 harg1 arg2 harg2 arg3 harg3 arg4 harg4 arg5 harg5 arg10 arg11 x0 x1 x4 hP hx2 hx3 0 6 (by decide) (by decide) 768 rfl inb_S32x7168_S32x128_0_768 y, fun y => key5 c arg1 harg1 arg2 harg2 arg3 harg3 arg4 harg4 arg5 harg5 arg10 arg11 x0 x1 x4 hP hx2 hx3 0 5 (by decide) (by decide) 640 rfl inb_S32x7168_S32x128_0_640 y, fun y => key5 c arg1 harg1 arg2 harg2 arg3 harg3 arg4 harg4 arg5 harg5 arg10 arg11 x0 x1 x4 hP hx2 hx3 0 4 (by decide) (by decide) 512 rfl inb_S32x7168_S32x128_0_512 y, fun y => key5 c arg1 harg1 arg2 harg2 arg3 harg3 arg4 harg4 arg5 harg5 arg10 arg11 x0 x1 x4 hP hx2 hx3 0 3 (by decide) (by decide) 384 rfl inb_S32x7168_S32x128_0_384 y, fun y => key5 c arg1 harg1 arg2 harg2 arg3 harg3 arg4 harg4 arg5 harg5 arg10 arg11 x0 x1 x4 hP hx2 hx3 0 2 (by decide) (by decide) 256 rfl inb_S32x7168_S32x128_0_256 y, fun y => key5 c arg1 harg1 arg2 harg2 arg3 harg3 arg4 harg4 arg5 harg5 arg10 arg11 x0 x1 x4 hP hx2 hx3 0 1 (by decide) (by decide) 128 rfl inb_S32x7168_S32x128_0_128 y, fun y => key5 c arg1 harg1 arg2 harg2 arg3 harg3 arg4 harg4 arg5 harg5 arg10 arg11 x0 x1 x4 hP hx2 hx3 0 0 (by decide) (by decide) 0 rfl inb_S32x7168_S32x128_0_0 y, trivial⟩

set_option maxHeartbeats 8000000 in
/-- All stores of the shifted codes write the one array of them. -/
theorem lhs_pieces : View.PiecesOf (fun u : S32x7168.Idx => (Gl (x4 (ix2 0 0)) (Zk (at2 (k0_pay5 (F := Ideal) x0 x1)) P Q) (u 0).val (u 1).val : EReal))
    (kernelRun0_A (F := Ideal) c i arg1 harg1 arg2 harg2 arg3 harg3 arg4 harg4 arg5 harg5 arg6 harg6 arg7 harg7 arg8 harg8 arg9 harg9 arg10 harg10 arg11 harg11 x0 x1 x2 x3 x4).2.1 :=
  ⟨fun y => key6 c arg1 harg1 arg2 harg2 arg3 harg3 arg4 harg4 arg5 harg5 arg10 arg11 x0 x1 x4 hP hx2 hx3 7 6 (by decide) (by decide) 7040 rfl inb_S32x7168_S32x128_0_7040 y, fun y => key6 c arg1 harg1 arg2 harg2 arg3 harg3 arg4 harg4 arg5 harg5 arg10 arg11 x0 x1 x4 hP hx2 hx3 7 5 (by decide) (by decide) 6912 rfl inb_S32x7168_S32x128_0_6912 y, fun y => key6 c arg1 harg1 arg2 harg2 arg3 harg3 arg4 harg4 arg5 harg5 arg10 arg11 x0 x1 x4 hP hx2 hx3 7 4 (by decide) (by decide) 6784 rfl inb_S32x7168_S32x128_0_6784 y, fun y => key6 c arg1 harg1 arg2 harg2 arg3 harg3 arg4 harg4 arg5 harg5 arg10 arg11 x0 x1 x4 hP hx2 hx3 7 3 (by decide) (by decide) 6656 rfl inb_S32x7168_S32x128_0_6656 y, fun y => key6 c arg1 harg1 arg2 harg2 arg3 harg3 arg4 harg4 arg5 harg5 arg10 arg11 x0 x1 x4 hP hx2 hx3 7 2 (by decide) (by decide) 6528 rfl inb_S32x7168_S32x128_0_6528 y, fun y => key6 c arg1 harg1 arg2 harg2 arg3 harg3 arg4 harg4 arg5 harg5 arg10 arg11 x0 x1 x4 hP hx2 hx3 7 1 (by decide) (by decide) 6400 rfl inb_S32x7168_S32x128_0_6400 y, fun y => key6 c arg1 harg1 arg2 harg2 arg3 harg3 arg4 harg4 arg5 harg5 arg10 arg11 x0 x1 x4 hP hx2 hx3 7 0 (by decide) (by decide) 6272 rfl inb_S32x7168_S32x128_0_6272 y, fun y => key6 c arg1 harg1 arg2 harg2 arg3 harg3 arg4 harg4 arg5 harg5 arg10 arg11 x0 x1 x4 hP hx2 hx3 6 6 (by decide) (by decide) 6144 rfl inb_S32x7168_S32x128_0_6144 y, fun y => key6 c arg1 harg1 arg2 harg2 arg3 harg3 arg4 harg4 arg5 harg5 arg10 arg11 x0 x1 x4 hP hx2 hx3 6 5 (by decide) (by decide) 6016 rfl inb_S32x7168_S32x128_0_6016 y, fun y => key6 c arg1 harg1 arg2 harg2 arg3 harg3 arg4 harg4 arg5 harg5 arg10 arg11 x0 x1 x4 hP hx2 hx3 6 4 (by decide) (by decide) 5888 rfl inb_S32x7168_S32x128_0_5888 y, fun y => key6 c arg1 harg1 arg2 harg2 arg3 harg3 arg4 harg4 arg5 harg5 arg10 arg11 x0 x1 x4 hP hx2 hx3 6 3 (by decide) (by decide) 5760 rfl inb_S32x7168_S32x128_0_5760 y, fun y => key6 c arg1 harg1 arg2 harg2 arg3 harg3 arg4 harg4 arg5 harg5 arg10 arg11 x0 x1 x4 hP hx2 hx3 6 2 (by decide) (by decide) 5632 rfl inb_S32x7168_S32x128_0_5632 y, fun y => key6 c arg1 harg1 arg2 harg2 arg3 harg3 arg4 harg4 arg5 harg5 arg10 arg11 x0 x1 x4 hP hx2 hx3 6 1 (by decide) (by decide) 5504 rfl inb_S32x7168_S32x128_0_5504 y, fun y => key6 c arg1 harg1 arg2 harg2 arg3 harg3 arg4 harg4 arg5 harg5 arg10 arg11 x0 x1 x4 hP hx2 hx3 6 0 (by decide) (by decide) 5376 rfl inb_S32x7168_S32x128_0_5376 y, fun y => key6 c arg1 harg1 arg2 harg2 arg3 harg3 arg4 harg4 arg5 harg5 arg10 arg11 x0 x1 x4 hP hx2 hx3 5 6 (by decide) (by decide) 5248 rfl inb_S32x7168_S32x128_0_5248 y, fun y => key6 c arg1 harg1 arg2 harg2 arg3 harg3 arg4 harg4 arg5 harg5 arg10 arg11 x0 x1 x4 hP hx2 hx3 5 5 (by decide) (by decide) 5120 rfl inb_S32x7168_S32x128_0_5120 y, fun y => key6 c arg1 harg1 arg2 harg2 arg3 harg3 arg4 harg4 arg5 harg5 arg10 arg11 x0 x1 x4 hP hx2 hx3 5 4 (by decide) (by decide) 4992 rfl inb_S32x7168_S32x128_0_4992 y, fun y => key6 c arg1 harg1 arg2 harg2 arg3 harg3 arg4 harg4 arg5 harg5 arg10 arg11 x0 x1 x4 hP hx2 hx3 5 3 (by decide) (by decide) 4864 rfl inb_S32x7168_S32x128_0_4864 y, fun y => key6 c arg1 harg1 arg2 harg2 arg3 harg3 arg4 harg4 arg5 harg5 arg10 arg11 x0 x1 x4 hP hx2 hx3 5 2 (by decide) (by decide) 4736 rfl inb_S32x7168_S32x128_0_4736 y, fun y => key6 c arg1 harg1 arg2 harg2 arg3 harg3 arg4 harg4 arg5 harg5 arg10 arg11 x0 x1 x4 hP hx2 hx3 5 1 (by decide) (by decide) 4608 rfl inb_S32x7168_S32x128_0_4608 y, fun y => key6 c arg1 harg1 arg2 harg2 arg3 harg3 arg4 harg4 arg5 harg5 arg10 arg11 x0 x1 x4 hP hx2 hx3 5 0 (by decide) (by decide) 4480 rfl inb_S32x7168_S32x128_0_4480 y, fun y => key6 c arg1 harg1 arg2 harg2 arg3 harg3 arg4 harg4 arg5 harg5 arg10 arg11 x0 x1 x4 hP hx2 hx3 4 6 (by decide) (by decide) 4352 rfl inb_S32x7168_S32x128_0_4352 y, fun y => key6 c arg1 harg1 arg2 harg2 arg3 harg3 arg4 harg4 arg5 harg5 arg10 arg11 x0 x1 x4 hP hx2 hx3 4 5 (by decide) (by decide) 4224 rfl inb_S32x7168_S32x128_0_4224 y, fun y => key6 c arg1 harg1 arg2 harg2 arg3 harg3 arg4 harg4 arg5 harg5 arg10 arg11 x0 x1 x4 hP hx2 hx3 4 4 (by decide) (by decide) 4096 rfl inb_S32x7168_S32x128_0_4096 y, fun y => key6 c arg1 harg1 arg2 harg2 arg3 harg3 arg4 harg4 arg5 harg5 arg10 arg11 x0 x1 x4 hP hx2 hx3 4 3 (by decide) (by decide) 3968 rfl inb_S32x7168_S32x128_0_3968 y, fun y => key6 c arg1 harg1 arg2 harg2 arg3 harg3 arg4 harg4 arg5 harg5 arg10 arg11 x0 x1 x4 hP hx2 hx3 4 2 (by decide) (by decide) 3840 rfl inb_S32x7168_S32x128_0_3840 y, fun y => key6 c arg1 harg1 arg2 harg2 arg3 harg3 arg4 harg4 arg5 harg5 arg10 arg11 x0 x1 x4 hP hx2 hx3 4 1 (by decide) (by decide) 3712 rfl inb_S32x7168_S32x128_0_3712 y, fun y => key6 c arg1 harg1 arg2 harg2 arg3 harg3 arg4 harg4 arg5 harg5 arg10 arg11 x0 x1 x4 hP hx2 hx3 4 0 (by decide) (by decide) 3584 rfl inb_S32x7168_S32x128_0_3584 y, fun y => key6 c arg1 harg1 arg2 harg2 arg3 harg3 arg4 harg4 arg5 harg5 arg10 arg11 x0 x1 x4 hP hx2 hx3 3 6 (by decide) (by decide) 3456 rfl inb_S32x7168_S32x128_0_3456 y, fun y => key6 c arg1 harg1 arg2 harg2 arg3 harg3 arg4 harg4 arg5 harg5 arg10 arg11 x0 x1 x4 hP hx2 hx3 3 5 (by decide) (by decide) 3328 rfl inb_S32x7168_S32x128_0_3328 y, fun y => key6 c arg1 harg1 arg2 harg2 arg3 harg3 arg4 harg4 arg5 harg5 arg10 arg11 x0 x1 x4 hP hx2 hx3 3 4 (by decide) (by decide) 3200 rfl inb_S32x7168_S32x128_0_3200 y, fun y => key6 c arg1 harg1 arg2 harg2 arg3 harg3 arg4 harg4 arg5 harg5 arg10 arg11 x0 x1 x4 hP hx2 hx3 3 3 (by decide) (by decide) 3072 rfl inb_S32x7168_S32x128_0_3072 y, fun y => key6 c arg1 harg1 arg2 harg2 arg3 harg3 arg4 harg4 arg5 harg5 arg10 arg11 x0 x1 x4 hP hx2 hx3 3 2 (by decide) (by decide) 2944 rfl inb_S32x7168_S32x128_0_2944 y, fun y => key6 c arg1 harg1 arg2 harg2 arg3 harg3 arg4 harg4 arg5 harg5 arg10 arg11 x0 x1 x4 hP hx2 hx3 3 1 (by decide) (by decide) 2816 rfl inb_S32x7168_S32x128_0_2816 y, fun y => key6 c arg1 harg1 arg2 harg2 arg3 harg3 arg4 harg4 arg5 harg5 arg10 arg11 x0 x1 x4 hP hx2 hx3 3 0 (by decide) (by decide) 2688 rfl inb_S32x7168_S32x128_0_2688 y, fun y => key6 c arg1 harg1 arg2 harg2 arg3 harg3 arg4 harg4 arg5 harg5 arg10 arg11 x0 x1 x4 hP hx2 hx3 2 6 (by decide) (by decide) 2560 rfl inb_S32x7168_S32x128_0_2560 y, fun y => key6 c arg1 harg1 arg2 harg2 arg3 harg3 arg4 harg4 arg5 harg5 arg10 arg11 x0 x1 x4 hP hx2 hx3 2 5 (by decide) (by decide) 2432 rfl inb_S32x7168_S32x128_0_2432 y, fun y => key6 c arg1 harg1 arg2 harg2 arg3 harg3 arg4 harg4 arg5 harg5 arg10 arg11 x0 x1 x4 hP hx2 hx3 2 4 (by decide) (by decide) 2304 rfl inb_S32x7168_S32x128_0_2304 y, fun y => key6 c arg1 harg1 arg2 harg2 arg3 harg3 arg4 harg4 arg5 harg5 arg10 arg11 x0 x1 x4 hP hx2 hx3 2 3 (by decide) (by decide) 2176 rfl inb_S32x7168_S32x128_0_2176 y, fun y => key6 c arg1 harg1 arg2 harg2 arg3 harg3 arg4 harg4 arg5 harg5 arg10 arg11 x0 x1 x4 hP hx2 hx3 2 2 (by decide) (by decide) 2048 rfl inb_S32x7168_S32x128_0_2048 y, fun y => key6 c arg1 harg1 arg2 harg2 arg3 harg3 arg4 harg4 arg5 harg5 arg10 arg11 x0 x1 x4 hP hx2 hx3 2 1 (by decide) (by decide) 1920 rfl inb_S32x7168_S32x128_0_1920 y, fun y => key6 c arg1 harg1 arg2 harg2 arg3 harg3 arg4 harg4 arg5 harg5 arg10 arg11 x0 x1 x4 hP hx2 hx3 2 0 (by decide) (by decide) 1792 rfl inb_S32x7168_S32x128_0_1792 y, fun y => key6 c arg1 harg1 arg2 harg2 arg3 harg3 arg4 harg4 arg5 harg5 arg10 arg11 x0 x1 x4 hP hx2 hx3 1 6 (by decide) (by decide) 1664 rfl inb_S32x7168_S32x128_0_1664 y, fun y => key6 c arg1 harg1 arg2 harg2 arg3 harg3 arg4 harg4 arg5 harg5 arg10 arg11 x0 x1 x4 hP hx2 hx3 1 5 (by decide) (by decide) 1536 rfl inb_S32x7168_S32x128_0_1536 y, fun y => key6 c arg1 harg1 arg2 harg2 arg3 harg3 arg4 harg4 arg5 harg5 arg10 arg11 x0 x1 x4 hP hx2 hx3 1 4 (by decide) (by decide) 1408 rfl inb_S32x7168_S32x128_0_1408 y, fun y => key6 c arg1 harg1 arg2 harg2 arg3 harg3 arg4 harg4 arg5 harg5 arg10 arg11 x0 x1 x4 hP hx2 hx3 1 3 (by decide) (by decide) 1280 rfl inb_S32x7168_S32x128_0_1280 y, fun y => key6 c arg1 harg1 arg2 harg2 arg3 harg3 arg4 harg4 arg5 harg5 arg10 arg11 x0 x1 x4 hP hx2 hx3 1 2 (by decide) (by decide) 1152 rfl inb_S32x7168_S32x128_0_1152 y, fun y => key6 c arg1 harg1 arg2 harg2 arg3 harg3 arg4 harg4 arg5 harg5 arg10 arg11 x0 x1 x4 hP hx2 hx3 1 1 (by decide) (by decide) 1024 rfl inb_S32x7168_S32x128_0_1024 y, fun y => key6 c arg1 harg1 arg2 harg2 arg3 harg3 arg4 harg4 arg5 harg5 arg10 arg11 x0 x1 x4 hP hx2 hx3 1 0 (by decide) (by decide) 896 rfl inb_S32x7168_S32x128_0_896 y, fun y => key6 c arg1 harg1 arg2 harg2 arg3 harg3 arg4 harg4 arg5 harg5 arg10 arg11 x0 x1 x4 hP hx2 hx3 0 6 (by decide) (by decide) 768 rfl inb_S32x7168_S32x128_0_768 y, fun y => key6 c arg1 harg1 arg2 harg2 arg3 harg3 arg4 harg4 arg5 harg5 arg10 arg11 x0 x1 x4 hP hx2 hx3 0 5 (by decide) (by decide) 640 rfl inb_S32x7168_S32x128_0_640 y, fun y => key6 c arg1 harg1 arg2 harg2 arg3 harg3 arg4 harg4 arg5 harg5 arg10 arg11 x0 x1 x4 hP hx2 hx3 0 4 (by decide) (by decide) 512 rfl inb_S32x7168_S32x128_0_512 y, fun y => key6 c arg1 harg1 arg2 harg2 arg3 harg3 arg4 harg4 arg5 harg5 arg10 arg11 x0 x1 x4 hP hx2 hx3 0 3 (by decide) (by decide) 384 rfl inb_S32x7168_S32x128_0_384 y, fun y => key6 c arg1 harg1 arg2 harg2 arg3 harg3 arg4 harg4 arg5 harg5 arg10 arg11 x0 x1 x4 hP hx2 hx3 0 2 (by decide) (by decide) 256 rfl inb_S32x7168_S32x128_0_256 y, fun y => key6 c arg1 harg1 arg2 harg2 arg3 harg3 arg4 harg4 arg5 harg5 arg10 arg11 x0 x1 x4 hP hx2 hx3 0 1 (by decide) (by decide) 128 rfl inb_S32x7168_S32x128_0_128 y, fun y => key6 c arg1 harg1 arg2 harg2 arg3 harg3 arg4 harg4 arg5 harg5 arg10 arg11 x0 x1 x4 hP hx2 hx3 0 0 (by decide) (by decide) 0 rfl inb_S32x7168_S32x128_0_0 y, trivial⟩

end Cert.KernelIdeal.Val
end
end
-- ==== Proof.Q3.lean ====
/- The four results of the transform at one grid point, read at an index. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Q2

@[expose] public section

set_option maxRecDepth 16384

noncomputable section

namespace Cert.KernelIdeal.Val

open Cert.KernelIdeal Cert.KernelIdeal.Gen Idealize.ShloMosaic Idealize.ShloMosaic.TcCoe Idealize.SL.Sem

open View

variable (c : Dev nD) (i : grid0.Coords) (arg1 : Memref sig .tc .vmem S32x7168 .bf16) (harg1 : arg1.IsWhole)
  (arg2 : Memref sig .tc .vmem S1x7168 .f32) (harg2 : arg2.IsWhole) (arg3 : Memref sig .tc .vmem S4x384x256 .bf16) (harg3 : arg3.IsWhole)
  (arg4 : Memref sig .tc .vmem S256x256 .bf16) (harg4 : arg4.IsWhole) (arg5 : Memref sig .tc .smem S1x1 .f32) (harg5 : arg5.IsWhole)
  (arg6 : Memref sig .tc .vmem S32x7168 .i8) (harg6 : arg6.IsWhole) (arg7 : Memref sig .tc .vmem S32x7168 .fp8e4m3) (harg7 : arg7.IsWhole)
  (arg8 : Memref sig .tc .vmem S32x1 .f32) (harg8 : arg8.IsWhole) (arg9 : Memref sig .tc .vmem S32x1 .i32) (harg9 : arg9.IsWhole)
  (arg10 : Memref sig .tc .vmem S1152x2x128 .bf16) (harg10 : arg10.IsWhole) (arg11 : Memref sig .tc .vmem S2176x128 .f32) (harg11 : arg11.IsWhole)
  (x0 : Vec Ideal S32x7168 .bf16) (x1 : Vec Ideal S1x7168 .f32) (x2 : Vec Ideal S4x384x256 .bf16) (x3 : Vec Ideal S256x256 .bf16) (x4 : Vec Ideal S1x1 .f32)

variable {x2} {x3} {P Q : ℕ → ℕ → EReal}
variable (hP : ∀ p l, 112 ≤ l → l < 128 → P p l = P p 0) (hx2 : HX2 P x2) (hx3 : HX3 Q x3)
include hP hx2 hx3

/-- The codes one grid point leaves. -/
theorem out5_apply (t : Fin 32) (n : Fin 7168) :
    out0_A_5 (F := Ideal) c i arg1 harg1 arg2 harg2 arg3 harg3 arg4 harg4 arg5 harg5 arg6 harg6 arg7 harg7 arg8 harg8 arg9 harg9 arg10 harg10 arg11 harg11 x0 x1 x2 x3 x4 (ix2 t n) = Gc (x4 (ix2 0 0)) (Zk (at2 (k0_pay5 (F := Ideal) x0 x1)) P Q) t.val n.val := by
  unfold out0_A_5
  rw [View.read_writes_junk_eq_canon]
  exact View.canon_apply_of_pieces (fun u : S32x7168.Idx => (Gc (x4 (ix2 0 0)) (Zk (at2 (k0_pay5 (F := Ideal) x0 x1)) P Q) (u 0).val (u 1).val : BitVec 8)) _
    (codes_pieces c i arg1 harg1 arg2 harg2 arg3 harg3 arg4 harg4 arg5 harg5 arg6 harg6 arg7 harg7 arg8 harg8 arg9 harg9 arg10 harg10 arg11 harg11 x0 x1 x4 hP hx2 hx3).mem _ (cover0_A_5 (F := Ideal) c i arg1 harg1 arg2 harg2 arg3 harg3 arg4 harg4 arg5 harg5 arg6 harg6 arg7 harg7 arg8 harg8 arg9 harg9 arg10 harg10 arg11 harg11 x0 x1 x2 x3 x4 _)

/-- The shifted codes one grid point leaves. -/
theorem out6_apply (t : Fin 32) (n : Fin 7168) :
    out0_A_6 (F := Ideal) c i arg1 harg1 arg2 harg2 arg3 harg3 arg4 harg4 arg5 harg5 arg6 harg6 arg7 harg7 arg8 harg8 arg9 harg9 arg10 harg10 arg11 harg11 x0 x1 x2 x3 x4 (ix2 t n) = Gl (x4 (ix2 0 0)) (Zk (at2 (k0_pay5 (F := Ideal) x0 x1)) P Q) t.val n.val := by
  unfold out0_A_6
  rw [View.read_writes_junk_eq_canon]
  exact View.canon_apply_of_pieces (fun u : S32x7168.Idx => (Gl (x4 (ix2 0 0)) (Zk (at2 (k0_pay5 (F := Ideal) x0 x1)) P Q) (u 0).val (u 1).val : EReal)) _
    (lhs_pieces c i arg1 harg1 arg2 harg2 arg3 harg3 arg4 harg4 arg5 harg5 arg6 harg6 arg7 harg7 arg8 harg8 arg9 harg9 arg10 harg10 arg11 harg11 x0 x1 x4 hP hx2 hx3).mem _ (cover0_A_6 (F := Ideal) c i arg1 harg1 arg2 harg2 arg3 harg3 arg4 harg4 arg5 harg5 arg6 harg6 arg7 harg7 arg8 harg8 arg9 harg9 arg10 harg10 arg11 harg11 x0 x1 x2 x3 x4 _)

/-- The scales one grid point leaves. -/
theorem out7_apply (t : Fin 32) :
    out0_A_7 (F := Ideal) c i arg1 harg1 arg2 harg2 arg3 harg3 arg4 harg4 arg5 harg5 arg6 harg6 arg7 harg7 arg8 harg8 arg9 harg9 arg10 harg10 arg11 harg11 x0 x1 x2 x3 x4 (ix2 t 0) = Gs (x4 (ix2 0 0)) (Zk (at2 (k0_pay5 (F := Ideal) x0 x1)) P Q) t.val := by
  unfold out0_A_7
  rw [View.read_writes_junk_eq_canon]
  have hpc : View.PiecesOf (fun u : S32x1.Idx => (Gs (x4 (ix2 0 0)) (Zk (at2 (k0_pay5 (F := Ideal) x0 x1)) P Q) (u 0).val : EReal)) (kernelRun0_A (F := Ideal) c i arg1 harg1 arg2 harg2 arg3 harg3 arg4 harg4 arg5 harg5 arg6 harg6 arg7 harg7 arg8 harg8 arg9 harg9 arg10 harg10 arg11 harg11 x0 x1 x2 x3 x4).2.2.1 := by
    refine ⟨fun y => ?_, trivial⟩
    idx_vars y
    have e := scv_apply (vrow c arg1 harg1 arg2 harg2 arg3 harg3 arg4 harg4 arg10 arg11 x0 x1 x2 x3) (kernelRun0_A.sl.r_34 (F := Ideal) c arg5 harg5 x4) (Zk (at2 (k0_pay5 (F := Ideal) x0 x1)) P Q) (vrow_apply c arg1 harg1 arg2 harg2 arg3 harg3 arg4 harg4 arg10 arg11 x0 x1 hx2 hx3) (Zk_dup hP) y0
    rw [al_eq] at e
    obtain rfl : y1 = 0 := Fin.ext (by omega)
    unfold Gs
    have e0 : ((Rect.unit (s := S32x1) ![0, 0] S32x1.size inb_S32x1_S32x1_0_0).emb (ix2 y0 (0 : Fin 1)) 0).val = 0 + 1 * y0.val := rfl
    refine Eq.trans ?_ (e.trans ?_)
    · rw [← al_eq c arg5 harg5 x4]
      unfold scv
      rw [← r32_eq, ← r33_eq]
      rfl
    · show _ = qsc _ (qmn fun n => (Zk (at2 (k0_pay5 (F := Ideal) x0 x1)) P Q) ((Rect.unit (s := S32x1) ![0, 0] S32x1.size inb_S32x1_S32x1_0_0).emb (ix2 y0 (0 : Fin 1)) 0).val (n / 112) (n % 112)) (qmx fun n => (Zk (at2 (k0_pay5 (F := Ideal) x0 x1)) P Q) ((Rect.unit (s := S32x1) ![0, 0] S32x1.size inb_S32x1_S32x1_0_0).emb (ix2 y0 (0 : Fin 1)) 0).val (n / 112) (n % 112))
      rw [e0, Nat.zero_add, Nat.one_mul]
  exact View.canon_apply_of_pieces (fun u : S32x1.Idx => (Gs (x4 (ix2 0 0)) (Zk (at2 (k0_pay5 (F := Ideal) x0 x1)) P Q) (u 0).val : EReal)) _ hpc.mem _ (cover0_A_7 (F := Ideal) c i arg1 harg1 arg2 harg2 arg3 harg3 arg4 harg4 arg5 harg5 arg6 harg6 arg7 harg7 arg8 harg8 arg9 harg9 arg10 harg10 arg11 harg11 x0 x1 x2 x3 x4 _)

/-- The zero points one grid point leaves. -/
theorem out8_apply (t : Fin 32) :
    out0_A_8 (F := Ideal) c i arg1 harg1 arg2 harg2 arg3 harg3 arg4 harg4 arg5 harg5 arg6 harg6 arg7 harg7 arg8 harg8 arg9 harg9 arg10 harg10 arg11 harg11 x0 x1 x2 x3 x4 (ix2 t 0) = FloatOps.fptosi (F := Ideal) (φ := .f32) 32 (Gz (x4 (ix2 0 0)) (Zk (at2 (k0_pay5 (F := Ideal) x0 x1)) P Q) t.val) := by
  unfold out0_A_8
  rw [View.read_writes_junk_eq_canon]
  have hpc : View.PiecesOf (fun u : S32x1.Idx => (FloatOps.fptosi (F := Ideal) (φ := .f32) 32 (Gz (x4 (ix2 0 0)) (Zk (at2 (k0_pay5 (F := Ideal) x0 x1)) P Q) (u 0).val) : BitVec 32)) (kernelRun0_A (F := Ideal) c i arg1 harg1 arg2 harg2 arg3 harg3 arg4 harg4 arg5 harg5 arg6 harg6 arg7 harg7 arg8 harg8 arg9 harg9 arg10 harg10 arg11 harg11 x0 x1 x2 x3 x4).2.2.2.1 := by
    refine ⟨fun y => ?_, trivial⟩
    idx_vars y
    have e := zpv_apply (vrow c arg1 harg1 arg2 harg2 arg3 harg3 arg4 harg4 arg10 arg11 x0 x1 x2 x3) (kernelRun0_A.sl.r_34 (F := Ideal) c arg5 harg5 x4) (Zk (at2 (k0_pay5 (F := Ideal) x0 x1)) P Q) (vrow_apply c arg1 harg1 arg2 harg2 arg3 harg3 arg4 harg4 arg10 arg11 x0 x1 hx2 hx3) (Zk_dup hP) y0
    rw [al_eq] at e
    obtain rfl : y1 = 0 := Fin.ext (by omega)
    unfold Gz
    have e0 : ((Rect.unit (s := S32x1) ![0, 0] S32x1.size inb_S32x1_S32x1_0_0).emb (ix2 y0 (0 : Fin 1)) 0).val = 0 + 1 * y0.val := rfl
    refine Eq.trans ?_ (e.trans ?_)
    · rw [← al_eq c arg5 harg5 x4]
      unfold zpv
      rw [← r32_eq, ← r33_eq]
      rfl
    · show _ = FloatOps.fptosi (F := Ideal) (φ := .f32) 32 (qzf _ (qmn fun n => (Zk (at2 (k0_pay5 (F := Ideal) x0 x1)) P Q) ((Rect.unit (s := S32x1) ![0, 0] S32x1.size inb_S32x1_S32x1_0_0).emb (ix2 y0 (0 : Fin 1)) 0).val (n / 112) (n % 112)) (qmx fun n => (Zk (at2 (k0_pay5 (F := Ideal) x0 x1)) P Q) ((Rect.unit (s := S32x1) ![0, 0] S32x1.size inb_S32x1_S32x1_0_0).emb (ix2 y0 (0 : Fin 1)) 0).val (n / 112) (n % 112)))
      rw [e0, Nat.zero_add, Nat.one_mul]
  exact View.canon_apply_of_pieces (fun u : S32x1.Idx => (FloatOps.fptosi (F := Ideal) (φ := .f32) 32 (Gz (x4 (ix2 0 0)) (Zk (at2 (k0_pay5 (F := Ideal) x0 x1)) P Q) (u 0).val) : BitVec 32)) _ hpc.mem _ (cover0_A_8 (F := Ideal) c i arg1 harg1 arg2 harg2 arg3 harg3 arg4 harg4 arg5 harg5 arg6 harg6 arg7 harg7 arg8 harg8 arg9 harg9 arg10 harg10 arg11 harg11 x0 x1 x2 x3 x4 _)

end Cert.KernelIdeal.Val
end
end
-- ==== Proof.H0.lean ====
/- What the host prepares for the transform: the padded window factor, the block diagonal factor, the clip ratio, and the activation by rows. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.StableHlo.ReadAt
public import proofs.«01_k».proof.Proof.Q3

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Row `p`, column `l` of the 64-row mixing matrix the caller passes. -/
def Qm (c : Dev nD) (i a : Nat) : EReal :=
  if h : i < 64 ∧ a < 64 then (W0 m ρ c (Proc.devRef .tc main_arg2) : Vec Ideal S64x64 .bf16) (ix2 ⟨i, h.1⟩ ⟨a, h.2⟩) else 0

/-- The 112-row mixing matrix, its columns from 112 on filled with its first column. -/
def Pm (c : Dev nD) (p l : Nat) : EReal :=
  if h : p < 112 then
    if h' : l < 112 then (W0 m ρ c (Proc.devRef .tc main_arg3) : Vec Ideal S112x112 .bf16) (ix2 ⟨p, h⟩ ⟨l, h'⟩)
    else (W0 m ρ c (Proc.devRef .tc main_arg3) : Vec Ideal S112x112 .bf16) (ix2 ⟨p, h⟩ 0)
  else 0

/-- Channel `l` of token `t`, scaled: tokens are counted over both batches, 128 to a batch. -/
def Xm (c : Dev nD) (t l : Nat) : EReal :=
  if h : t < 256 ∧ l < 7168 then
    HMul.hMul (α := EReal) (β := EReal) (γ := EReal)
      ((W0 m ρ c (Proc.devRef .tc main_arg0) : Vec Ideal S2x128x7168 .bf16) (ix3 ⟨t / 128, by omega⟩ ⟨t % 128, by omega⟩ ⟨l, h.2⟩))
      ((W0 m ρ c (Proc.devRef .tc main_arg1) : Vec Ideal S7168 .f32) (ix1 ⟨l, h.2⟩))
  else 0

/-- The clip ratio: the logistic function of the clip logit. -/
def alm (c : Dev nD) : EReal :=
  Ideal.div 1 (1 + Ideal.exp (Neg.neg (α := EReal) (W0 m ρ c (Proc.devRef .tc main_arg4) ix0)))

/-- From lane 112 on the filled matrix repeats its first column. -/
theorem Pm_dup (c : Dev nD) : ∀ p l, 112 ≤ l → l < 128 → Pm m ρ c p l = Pm m ρ c p 0 := by
  intro p l h _
  unfold Pm
  split_ifs <;> first | rfl | omega

/-- The integer zero converts to zero. -/
theorem sitofp_zero : FloatOps.sitofp (F := Ideal) (w := 32) FTy.bf16 0#32 = 0 := by
  show (((0#32 : BitVec 32).toInt : ℝ) : EReal) = 0
  simp

/-- A matrix padded above by `lo` rows and below to 384 rows, in terms of the unpadded one: zero outside its own 112 rows. -/
theorem pad_eq (c : Dev nD) (lo : Nat) (k : Fin 384) (l : Fin 128) (e : EReal)
    (h : e = if h : lo ≤ k.val ∧ k.val - lo < 112 then
      if h_1 : l.val < 112 then (W0 m ρ c (Proc.devRef .tc main_arg3) : Vec Ideal S112x112 .bf16) (ix2 ⟨k.val - lo, h.2⟩ ⟨l, h_1⟩)
      else (W0 m ρ c (Proc.devRef .tc main_arg3) : Vec Ideal S112x112 .bf16) (ix2 ⟨k.val - lo, h.2⟩ 0)
      else FloatOps.sitofp (F := Ideal) (w := 32) FTy.bf16 0#32) :
    e = if lo ≤ k.val ∧ k.val < lo + 112 then Pm m ρ c (k.val - lo) l.val else 0 := by
  rw [h, sitofp_zero]
  unfold Pm
  split_ifs <;> first | rfl | omega

/-- The second factor placed from row 0 on, its other rows zero. -/
theorem h_v3 (c : Dev nD) (k : Fin 384) (l : Fin 128) : W4 (F := Ideal) m ρ c (Proc.devRef .tc main_v3) (ix2 k l)
    = if 0 ≤ k.val ∧ k.val < 0 + 112 then Pm m ρ c (k.val - 0) l.val else 0 := by
  refine pad_eq m ρ c 0 k l _ ?_
  after_reads_at; after_reads_at
/-- The second factor placed from row 112 on, its other rows zero. -/
theorem h_v4 (c : Dev nD) (k : Fin 384) (l : Fin 128) : W4 (F := Ideal) m ρ c (Proc.devRef .tc main_v4) (ix2 k l)
    = if 112 ≤ k.val ∧ k.val < 112 + 112 then Pm m ρ c (k.val - 112) l.val else 0 := by
  refine pad_eq m ρ c 112 k l _ ?_
  after_reads_at; after_reads_at
/-- The second factor placed from row 96 on, its other rows zero. -/
theorem h_v6 (c : Dev nD) (k : Fin 384) (l : Fin 128) : W8 (F := Ideal) m ρ c (Proc.devRef .tc main_v6) (ix2 k l)
    = if 96 ≤ k.val ∧ k.val < 96 + 112 then Pm m ρ c (k.val - 96) l.val else 0 := by
  refine pad_eq m ρ c 96 k l _ ?_
  after_reads_at; after_reads_at
/-- The second factor placed from row 208 on, its other rows zero. -/
theorem h_v7 (c : Dev nD) (k : Fin 384) (l : Fin 128) : W8 (F := Ideal) m ρ c (Proc.devRef .tc main_v7) (ix2 k l)
    = if 208 ≤ k.val ∧ k.val < 208 + 112 then Pm m ρ c (k.val - 208) l.val else 0 := by
  refine pad_eq m ρ c 208 k l _ ?_
  after_reads_at; after_reads_at
/-- The second factor placed from row 64 on, its other rows zero. -/
theorem h_v9 (c : Dev nD) (k : Fin 384) (l : Fin 128) : W12 (F := Ideal) m ρ c (Proc.devRef .tc main_v9) (ix2 k l)
    = if 64 ≤ k.val ∧ k.val < 64 + 112 then Pm m ρ c (k.val - 64) l.val else 0 := by
  refine pad_eq m ρ c 64 k l _ ?_
  after_reads_at; after_reads_at
/-- The second factor placed from row 176 on, its other rows zero. -/
theorem h_v10 (c : Dev nD) (k : Fin 384) (l : Fin 128) : W12 (F := Ideal) m ρ c (Proc.devRef .tc main_v10) (ix2 k l)
    = if 176 ≤ k.val ∧ k.val < 176 + 112 then Pm m ρ c (k.val - 176) l.val else 0 := by
  refine pad_eq m ρ c 176 k l _ ?_
  after_reads_at; after_reads_at
/-- The second factor placed from row 32 on, its other rows zero. -/
theorem h_v12 (c : Dev nD) (k : Fin 384) (l : Fin 128) : W16 (F := Ideal) m ρ c (Proc.devRef .tc main_v12) (ix2 k l)
    = if 32 ≤ k.val ∧ k.val < 32 + 112 then Pm m ρ c (k.val - 32) l.val else 0 := by
  refine pad_eq m ρ c 32 k l _ ?_
  after_reads_at; after_reads_at
/-- The second factor placed from row 144 on, its other rows zero. -/
theorem h_v13 (c : Dev nD) (k : Fin 384) (l : Fin 128) : W16 (F := Ideal) m ρ c (Proc.devRef .tc main_v13) (ix2 k l)
    = if 144 ≤ k.val ∧ k.val < 144 + 112 then Pm m ρ c (k.val - 144) l.val else 0 := by
  refine pad_eq m ρ c 144 k l _ ?_
  after_reads_at; after_reads_at

/-- To prove an equation, read the left side while the right side is held as one opaque value. -/
theorem via {α : Type} {a b : α} (h : ∀ R, b = R → a = R) : a = b := h b rfl

/-- Two padded matrices set side by side, read in either half. -/
theorem two_halves (c : Dev nD) (A B : Fin 384 → Fin 128 → EReal) (a b : Nat) (k : Fin 384) (h : Fin 2) (l : Fin 128) (q : Fin 256)
    (hq : q.val = 128 * h.val + l.val) (e : EReal)
    (he : e = if hq : q.val < 128 then A k ⟨q.val, hq⟩ else B k ⟨q.val - 128, by omega⟩)
    (hA : ∀ k l, A k l = if a ≤ k.val ∧ k.val < a + 112 then Pm m ρ c (k.val - a) l.val else 0)
    (hB : ∀ k l, B k l = if b ≤ k.val ∧ k.val < b + 112 then Pm m ρ c (k.val - b) l.val else 0)
    (o : Nat) (ho : o = if h.val = 0 then a else b) :
    e = if o ≤ k.val ∧ k.val < o + 112 then Pm m ρ c (k.val - o) l.val else 0 := by
  subst ho
  rw [he]
  by_cases h0 : h.val = 0
  · have hl : q.val = l.val := by omega
    rw [dif_pos (by omega), hA, if_pos h0]
    simp only [hl]
  · have hl : q.val - 128 = l.val := by omega
    rw [dif_neg (by omega), hB, if_neg h0]
    simp only [hl]

/-- The window factor the host builds has the layout the first product needs. -/
theorem hx2 (c : Dev nD) : HX2 (Pm m ρ c) (W19 (F := Ideal) m ρ c (Proc.devRef .tc main_v19)) := by
  intro j k h l q hq
  match j with
  | ⟨0, _⟩ =>
    refine two_halves m ρ c _ _ 0 112 k h l q hq _ ?_ (h_v3 m ρ c) (h_v4 m ρ c) _ ?_
    · show W19 (F := Ideal) m ρ c (Proc.devRef .tc main_v19) (ix3 0 k q) = _
      refine via fun R hR => ?_
      after_reads_at
      rw [StableHlo.unary_result]
      after_reads_at
      simp only [StableHlo.upto_zero]
      exact hR
    · simp only [wlo]; split_ifs <;> omega
  | ⟨1, _⟩ =>
    refine two_halves m ρ c _ _ 96 208 k h l q hq _ ?_ (h_v6 m ρ c) (h_v7 m ρ c) _ ?_
    · show W19 (F := Ideal) m ρ c (Proc.devRef .tc main_v19) (ix3 1 k q) = _
      refine via fun R hR => ?_
      after_reads_at
      rw [StableHlo.unary_result]
      after_reads_at
      simp only [StableHlo.upto_zero]
      exact hR
    · simp only [wlo]; split_ifs <;> omega
  | ⟨2, _⟩ =>
    refine two_halves m ρ c _ _ 64 176 k h l q hq _ ?_ (h_v9 m ρ c) (h_v10 m ρ c) _ ?_
    · show W19 (F := Ideal) m ρ c (Proc.devRef .tc main_v19) (ix3 2 k q) = _
      refine via fun R hR => ?_
      after_reads_at
      rw [StableHlo.unary_result]
      after_reads_at
      simp only [StableHlo.upto_zero]
      exact hR
    · simp only [wlo]; split_ifs <;> omega
  | ⟨3, _⟩ =>
    refine two_halves m ρ c _ _ 32 144 k h l q hq _ ?_ (h_v12 m ρ c) (h_v13 m ρ c) _ ?_
    · show W19 (F := Ideal) m ρ c (Proc.devRef .tc main_v19) (ix3 3 k q) = _
      refine via fun R hR => ?_
      after_reads_at
      rw [StableHlo.unary_result]
      after_reads_at
      simp only [StableHlo.upto_zero]
      exact hR
    · simp only [wlo]; split_ifs <;> omega

/-- The host's comparison of two positions' blocks of 64, as a number: one within a block, zero across blocks. -/
theorem same_group (a b : Fin 256) : FloatOps.uitofp (F := Ideal) .bf16
    (IntOp.cmpi .eq (IntOp.addi (BitVec.ofNat 32 (a.val / 64)) 0#32) (BitVec.ofNat 32 (b.val / 64)))
    = if a.val / 64 = b.val / 64 then (1 : EReal) else 0 := by
  have key : ∀ u v : Fin 4, (IntOp.cmpi .eq (IntOp.addi (BitVec.ofNat 32 u.val) 0#32) (BitVec.ofNat 32 v.val))
    = if u = v then 1#1 else 0#1 := by decide +kernel
  have := key ⟨a.val / 64, by omega⟩ ⟨b.val / 64, by omega⟩
  simp only [Fin.mk.injEq] at this
  rw [this]
  split_ifs
  · show (((1#1 : BitVec 1).toNat : ℝ) : EReal) = 1
    simp
  · show (((0#1 : BitVec 1).toNat : ℝ) : EReal) = 0
    simp

/-- The factor the host builds for the second product is four copies of one matrix on a block diagonal. -/
theorem hx3 (c : Dev nD) : HX3 (Qm m ρ c) (W19 (F := Ideal) m ρ c (Proc.devRef .tc main_v27)) := by
  intro r q
  after_reads_at
  rw [same_group]
  unfold Qm
  rw [dif_pos ⟨by omega, by omega⟩]
  split_ifs
  · rw [one_mul]
  · rw [zero_mul]

/-- The clip ratio as the transform receives it. -/
theorem h_v32 (c : Dev nD) : W19 (F := Ideal) m ρ c (Proc.devRef .tc main_v32) (ix2 0 0) = alm m ρ c := by
  unfold alm
  after_reads_at

/-- The activation as the transform receives it: both batches' tokens one after another. -/
theorem h_v33 (c : Dev nD) (p : Fin 256) (l : Fin 7168) : W19 (F := Ideal) m ρ c (Proc.devRef .tc main_v33) (ix2 p l)
    = (W0 m ρ c (Proc.devRef .tc main_arg0) : Vec Ideal S2x128x7168 .bf16) (ix3 ⟨p.val / 128, by omega⟩ ⟨p.val % 128, by omega⟩ l) := by
  after_reads_at

/-- The channel scales as the transform receives them. -/
theorem h_v34 (c : Dev nD) (l : Fin 7168) : W19 (F := Ideal) m ρ c (Proc.devRef .tc main_v34) (ix2 0 l)
    = (W0 m ρ c (Proc.devRef .tc main_arg1) : Vec Ideal S7168 .f32) (ix1 l) := by
  after_reads_at

end Cert.KernelIdeal.Val
end
end
-- ==== Proof.H1.lean ====
/- The four arrays the transform leaves after its eight grid points, read at an index. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.H0

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Which block of each array a grid point of the transform takes. -/
theorem idx0 : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ t.val < 8 := (by decide +kernel : ∀ t : Fin grid0.N, _)

/-- Every grid point takes the whole window factor. -/
theorem iblk2 (c : Dev nD) (t : Fin cfg0.N) (p : Fin 4) (q : Fin 384) (r : Fin 256) : iblk0 (V19 m ρ) c 2 t (ix3 p q r)
    = W19 (F := Ideal) m ρ c (Proc.devRef .tc main_v19) (ix3 p q r) := by
  blk_ext [iblk0, V19, idx0 t]
/-- Every grid point takes the whole block diagonal factor. -/
theorem iblk3 (c : Dev nD) (t : Fin cfg0.N) (p : Fin 256) (q : Fin 256) : iblk0 (V19 m ρ) c 3 t (ix2 p q)
    = W19 (F := Ideal) m ρ c (Proc.devRef .tc main_v27) (ix2 p q) := by
  blk_ext [iblk0, V19, idx0 t]
/-- Every grid point takes the one clip ratio. -/
theorem iblk4 (c : Dev nD) (t : Fin cfg0.N) : iblk0 (V19 m ρ) c 4 t (ix2 0 0)
    = W19 (F := Ideal) m ρ c (Proc.devRef .tc main_v32) (ix2 0 0) := by
  blk_ext [iblk0, V19, idx0 t]
/-- The clip ratio a grid point takes, by its formula. -/
theorem iblk4a (c : Dev nD) (t : Fin cfg0.N) : iblk0 (V19 m ρ) c 4 t (ix2 0 0) = alm m ρ c := (iblk4 m ρ c t).trans (h_v32 m ρ c)
/-- Every grid point takes all channel scales. -/
theorem iblk1' (c : Dev nD) (t : Fin cfg0.N) (l : Fin 7168) : iblk0 (V19 m ρ) c 1 t (ix2 0 l)
    = W19 (F := Ideal) m ρ c (Proc.devRef .tc main_v34) (ix2 0 l) := by
  blk_ext [iblk0, V19, idx0 t]
/-- Grid point `t` takes the 32 tokens from `32 t` on. -/
theorem iblk0' (c : Dev nD) (t : Fin cfg0.N) (y : Fin 32) (l : Fin 7168) : iblk0 (V19 m ρ) c 0 t (ix2 y l)
    = W19 (F := Ideal) m ρ c (Proc.devRef .tc main_v33) (ix2 ⟨32 * t.val + y.val, by have := (idx0 t).2.2.2.2.2.2.2.2.2; omega⟩ l) := by
  blk_ext [iblk0, V19, idx0 t]

/-- The scaled activation is the product of activation and channel scale. -/
theorem pay5_apply (x0 : Vec Ideal S32x7168 .bf16) (x1 : Vec Ideal S1x7168 .f32) (y : Fin 32) (l : Fin 7168) :
    k0_pay5 (F := Ideal) x0 x1 (ix2 y l) = HMul.hMul (α := EReal) (β := EReal) (γ := EReal) (x0 (ix2 y l)) (x1 (ix2 0 l)) := by
  pointwise [k0_pay5]

/-- A grid point's scaled activation is that of its tokens. -/
theorem X_block (c : Dev nD) (t : Fin cfg0.N) (y : Fin 32) (l : Nat) (hl : l < 7168) :
    at2 (k0_pay5 (F := Ideal) (iblk0 (V19 m ρ) c 0 t) (iblk0 (V19 m ρ) c 1 t)) y.val l = Xm m ρ c (32 * t.val + y.val) l := by
  have ht := (idx0 t).2.2.2.2.2.2.2.2.2
  unfold at2 Xm
  rw [dif_pos ⟨y.isLt, hl⟩, dif_pos ⟨by omega, hl⟩, pay5_apply, iblk0', iblk1', h_v33, h_v34]

/-- A grid point's transformed activation is that of its tokens. -/
theorem Z_block (c : Dev nD) (t : Fin cfg0.N) (y : Fin 32) (a l : Nat) :
    Zk (at2 (k0_pay5 (F := Ideal) (iblk0 (V19 m ρ) c 0 t) (iblk0 (V19 m ρ) c 1 t))) (Pm m ρ c) (Qm m ρ c) y.val a l
      = Zk (Xm m ρ c) (Pm m ρ c) (Qm m ρ c) (32 * t.val + y.val) a l := by
  unfold Zk Yk
  refine Finset.sum_congr rfl fun i _ => congrArg _ (Finset.sum_congr rfl fun p _ => ?_)
  rw [X_block m ρ c t y _ (by omega)]

/-- The window factor a grid point takes has the layout the first product needs. -/
theorem hx2_block (c : Dev nD) (t : Fin cfg0.N) : HX2 (Pm m ρ c) (iblk0 (V19 m ρ) c 2 t) := by
  intro j k h l q hq
  rw [iblk2]
  exact hx2 m ρ c j k h l q hq

/-- The factor a grid point takes has the layout the second product needs. -/
theorem hx3_block (c : Dev nD) (t : Fin cfg0.N) : HX3 (Qm m ρ c) (iblk0 (V19 m ρ) c 3 t) := by
  intro j k
  rw [iblk3]
  exact hx3 m ρ c j k

/-- The transformed activation of token `t`, channel `112 a + l`. -/
def Zm (c : Dev nD) : ℕ → ℕ → ℕ → EReal := Zk (Xm m ρ c) (Pm m ρ c) (Qm m ρ c)

/-- A grid point's codes are those of its tokens. -/
theorem Gc_block (c : Dev nD) (t : Fin cfg0.N) (y : Fin 32) (n : ℕ) :
    Gc (iblk0 (V19 m ρ) c 4 t (ix2 0 0)) (Zk (at2 (k0_pay5 (F := Ideal) (iblk0 (V19 m ρ) c 0 t) (iblk0 (V19 m ρ) c 1 t))) (Pm m ρ c) (Qm m ρ c)) y.val n
      = Gc (alm m ρ c) (Zm m ρ c) (32 * t.val + y.val) n := by
  unfold Gc Zm
  simp only [Z_block, iblk4a]
/-- A grid point's scales are those of its tokens. -/
theorem Gs_block (c : Dev nD) (t : Fin cfg0.N) (y : Fin 32) :
    Gs (iblk0 (V19 m ρ) c 4 t (ix2 0 0)) (Zk (at2 (k0_pay5 (F := Ideal) (iblk0 (V19 m ρ) c 0 t) (iblk0 (V19 m ρ) c 1 t))) (Pm m ρ c) (Qm m ρ c)) y.val
      = Gs (alm m ρ c) (Zm m ρ c) (32 * t.val + y.val) := by
  unfold Gs Zm
  simp only [Z_block, iblk4a]
/-- A grid point's zero points are those of its tokens. -/
theorem Gz_block (c : Dev nD) (t : Fin cfg0.N) (y : Fin 32) :
    Gz (iblk0 (V19 m ρ) c 4 t (ix2 0 0)) (Zk (at2 (k0_pay5 (F := Ideal) (iblk0 (V19 m ρ) c 0 t) (iblk0 (V19 m ρ) c 1 t))) (Pm m ρ c) (Qm m ρ c)) y.val
      = Gz (alm m ρ c) (Zm m ρ c) (32 * t.val + y.val) := by
  unfold Gz Zm
  simp only [Z_block, iblk4a]
/-- A grid point's shifted codes are those of its tokens. -/
theorem Gl_block (c : Dev nD) (t : Fin cfg0.N) (y : Fin 32) (n : ℕ) :
    Gl (iblk0 (V19 m ρ) c 4 t (ix2 0 0)) (Zk (at2 (k0_pay5 (F := Ideal) (iblk0 (V19 m ρ) c 0 t) (iblk0 (V19 m ρ) c 1 t))) (Pm m ρ c) (Qm m ρ c)) y.val n
      = Gl (alm m ρ c) (Zm m ρ c) (32 * t.val + y.val) n := by
  unfold Gl
  rw [Gc_block, Gz_block]

/-- The array of codes after the transform. -/
theorem arr5 (c : Dev nD) : (dat0 (V19 m ρ) c).arrAt 5 cfg0.N
    = (fun y : S256x7168.Idx => Gc (alm m ρ c) (Zm m ρ c) (y 0).val (y 1).val : Vec Ideal S256x7168 .i8) := by
  refine (dat0 (V19 m ρ) c).arrAt_eq_of_covers 5 _ (by decide +kernel) fun t hf y => ?_
  blk_simp [idx0 t]
  rw [after0_5, Nat.mul_comm t.val 32]
  idx_vars y
  refine Eq.trans ?_ (Gc_block m ρ c t y0 y1.val)
  exact out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk0 (V19 m ρ) c 0 t) (iblk0 (V19 m ρ) c 1 t) (iblk0 (V19 m ρ) c 4 t) (Pm_dup m ρ c) (hx2_block m ρ c t) (hx3_block m ρ c t) y0 y1

/-- The array of shifted codes after the transform. -/
theorem arr6 (c : Dev nD) : (dat0 (V19 m ρ) c).arrAt 6 cfg0.N
    = (fun y : S256x7168.Idx => Gl (alm m ρ c) (Zm m ρ c) (y 0).val (y 1).val : Vec Ideal S256x7168 .fp8e4m3) := by
  refine (dat0 (V19 m ρ) c).arrAt_eq_of_covers 6 _ (by decide +kernel) fun t hf y => ?_
  blk_simp [idx0 t]
  rw [after0_6, Nat.mul_comm t.val 32]
  idx_vars y
  refine Eq.trans ?_ (Gl_block m ρ c t y0 y1.val)
  exact out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk0 (V19 m ρ) c 0 t) (iblk0 (V19 m ρ) c 1 t) (iblk0 (V19 m ρ) c 4 t) (Pm_dup m ρ c) (hx2_block m ρ c t) (hx3_block m ρ c t) y0 y1

/-- The array of scales after the transform. -/
theorem arr7 (c : Dev nD) : (dat0 (V19 m ρ) c).arrAt 7 cfg0.N
    = (fun y : S256x1.Idx => Gs (alm m ρ c) (Zm m ρ c) (y 0).val : Vec Ideal S256x1 .f32) := by
  refine (dat0 (V19 m ρ) c).arrAt_eq_of_covers 7 _ (by decide +kernel) fun t hf y => ?_
  blk_simp [idx0 t]
  rw [after0_7, Nat.mul_comm t.val 32]
  idx_vars y
  obtain rfl : y1 = 0 := Subsingleton.elim _ _
  refine Eq.trans ?_ (Gs_block m ρ c t y0)
  exact out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk0 (V19 m ρ) c 0 t) (iblk0 (V19 m ρ) c 1 t) (iblk0 (V19 m ρ) c 4 t) (Pm_dup m ρ c) (hx2_block m ρ c t) (hx3_block m ρ c t) y0

/-- The array of zero points after the transform. -/
theorem arr8 (c : Dev nD) : (dat0 (V19 m ρ) c).arrAt 8 cfg0.N
    = (fun y : S256x1.Idx => FloatOps.fptosi (F := Ideal) (φ := .f32) 32 (Gz (alm m ρ c) (Zm m ρ c) (y 0).val) : Vec Ideal S256x1 .i32) := by
  refine (dat0 (V19 m ρ) c).arrAt_eq_of_covers 8 _ (by decide +kernel) fun t hf y => ?_
  blk_simp [idx0 t]
  rw [after0_8, Nat.mul_comm t.val 32]
  idx_vars y
  obtain rfl : y1 = 0 := Subsingleton.elim _ _
  refine Eq.trans ?_ (congrArg (FloatOps.fptosi (F := Ideal) (φ := .f32) 32) (Gz_block m ρ c t y0))
  exact out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk0 (V19 m ρ) c 0 t) (iblk0 (V19 m ρ) c 1 t) (iblk0 (V19 m ρ) c 4 t) (Pm_dup m ρ c) (hx2_block m ρ c t) (hx3_block m ρ c t) y0

end Cert.KernelIdeal.Val
end
end
-- ==== Proof.M1.lean ====
/- The matrix product's array after its 18 grid points, and the kernel's four results read at an index. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.StableHlo.ReadAt
public import proofs.«01_k».proof.Proof.H1

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The four-bit weight of channel `k` within its packed byte: even channels low, odd channels high. -/
def nib (k : ℕ) (v : BitVec 8) : BitVec 4 :=
  if _h : k % 2 < 1 then BitVec.setWidth 4 (IntOp.shrsi ArithUnit.vector (IntOp.shli ArithUnit.vector (BitVec.setWidth 32 v) 28#32) 28#32)
  else BitVec.setWidth 4 (IntOp.shrsi ArithUnit.vector (IntOp.shli ArithUnit.vector (BitVec.setWidth 32 v) 24#32) 28#32)

/-- The product's payload at an index. -/
theorem pay1_apply (v0 : Vec Ideal S3584x1024 .i8) (v18 : Vec Ideal S256x7168 .fp8e4m3) (v21 : Vec Ideal S256x1 .f32) (v25 : Vec Ideal S1x1024 .f32)
    (r : Fin 256) (n : Fin 1024) : k1_pay1 (F := Ideal) v0 v18 v21 v25 (ix2 r n)
      = HMul.hMul (α := EReal) (β := EReal) (γ := EReal) (HMul.hMul (α := EReal) (β := EReal) (γ := EReal)
        (∑ k : Fin 7168, HMul.hMul (α := EReal) (β := EReal) (γ := EReal) (v18 (ix2 r k))
          (FloatOps.sitofp (F := Ideal) .bf16 (nib k.val (v0 (ix2 ⟨k.val / 2, by omega⟩ n))))) (v21 (ix2 r 0))) (v25 (ix2 0 n)) := by
  pointwise [k1_pay1, nib]

/-- Which block of each array a grid point of the product takes. -/
theorem idx1 : ∀ t : Fin cfg1.N, win1_0.index t = ![0, 0] ∧ win1_1.index t = ![0, t.val] ∧ win1_2.index t = ![0, 0]
    ∧ win1_3.index t = ![0, t.val] ∧ win1_4.index t = ![0, t.val] ∧ t.val < 18 := (by decide +kernel : ∀ t : Fin grid1.N, _)

/-- Every grid point takes all shifted codes. -/
theorem mblk0 (c : Dev nD) (t : Fin cfg1.N) (r : Fin 256) (k : Fin 7168) : iblk1 (V21 m ρ) c 0 t (ix2 r k)
    = W21 (F := Ideal) m ρ c (Proc.devRef .tc main_v35_1) (ix2 r k) := by
  blk_ext [iblk1, V21, idx1 t]
/-- Grid point `t` takes the packed weights of the 1024 output channels from `1024 t` on. -/
theorem mblk1 (c : Dev nD) (t : Fin cfg1.N) (p : Fin 3584) (n : Fin 1024) : iblk1 (V21 m ρ) c 1 t (ix2 p n)
    = W21 (F := Ideal) m ρ c (Proc.devRef .tc main_arg5) (ix2 p ⟨t.val * 1024 + n.val, by have := (idx1 t).2.2.2.2.2; omega⟩) := by
  blk_ext [iblk1, V21, idx1 t]
/-- Every grid point takes all scales. -/
theorem mblk2 (c : Dev nD) (t : Fin cfg1.N) (r : Fin 256) : iblk1 (V21 m ρ) c 2 t (ix2 r 0)
    = W21 (F := Ideal) m ρ c (Proc.devRef .tc main_v35_2) (ix2 r 0) := by
  blk_ext [iblk1, V21, idx1 t]
/-- Grid point `t` takes the weight scales of its 1024 output channels. -/
theorem mblk3 (c : Dev nD) (t : Fin cfg1.N) (n : Fin 1024) : iblk1 (V21 m ρ) c 3 t (ix2 0 n)
    = W21 (F := Ideal) m ρ c (Proc.devRef .tc main_v36) (ix2 0 ⟨t.val * 1024 + n.val, by have := (idx1 t).2.2.2.2.2; omega⟩) := by
  blk_ext [iblk1, V21, idx1 t]

/-- The codes the transform leaves. -/
theorem W21_codes (c : Dev nD) (r : Fin 256) (k : Fin 7168) : W20 (F := Ideal) m ρ c (Proc.devRef .tc main_v35_0) (ix2 r k)
    = Gc (alm m ρ c) (Zm m ρ c) r.val k.val :=
  congrFun ((W20_arr m ρ c 5).trans (arr5 m ρ c)) (ix2 r k)
/-- The shifted codes the product starts from. -/
theorem W21_lhs (c : Dev nD) (r : Fin 256) (k : Fin 7168) : W21 (F := Ideal) m ρ c (Proc.devRef .tc main_v35_1) (ix2 r k)
    = Gl (alm m ρ c) (Zm m ρ c) r.val k.val :=
  congrFun ((W21_of m ρ c main_v35_1 (by decide)).trans ((W20_arr m ρ c 6).trans (arr6 m ρ c))) (ix2 r k)
/-- The scales the product starts from. -/
theorem W21_scale (c : Dev nD) (r : Fin 256) : W21 (F := Ideal) m ρ c (Proc.devRef .tc main_v35_2) (ix2 r 0)
    = Gs (alm m ρ c) (Zm m ρ c) r.val :=
  congrFun ((W21_of m ρ c main_v35_2 (by decide)).trans ((W20_arr m ρ c 7).trans (arr7 m ρ c))) (ix2 r 0)
/-- The zero points the transform leaves. -/
theorem W20_zero (c : Dev nD) (r : Fin 256) : W20 (F := Ideal) m ρ c (Proc.devRef .tc main_v35_3) (ix2 r 0)
    = FloatOps.fptosi (F := Ideal) (φ := .f32) 32 (Gz (alm m ρ c) (Zm m ρ c) r.val) :=
  congrFun ((W20_arr m ρ c 8).trans (arr8 m ρ c)) (ix2 r 0)
/-- The weight scales the product starts from are the caller's. -/
theorem W21_ws (c : Dev nD) (n : Fin 18432) : W21 (F := Ideal) m ρ c (Proc.devRef .tc main_v36) (ix2 0 n)
    = W0 (F := Ideal) m ρ c (Proc.devRef .tc main_arg6) (ix1 n) := by
  have h : W20 (F := Ideal) m ρ c (Proc.devRef .tc main_arg6) = W0 (F := Ideal) m ρ c (Proc.devRef .tc main_arg6) :=
    W20_args m ρ c main_arg6 (by decide)
  after_reads_at
  rw [h]

/-- The matrix product's result: token `r`, output channel `n`. -/
def Ym (c : Dev nD) (r n : ℕ) : EReal :=
  if h : n < 18432 then
    HMul.hMul (α := EReal) (β := EReal) (γ := EReal) (HMul.hMul (α := EReal) (β := EReal) (γ := EReal)
      (∑ k : Fin 7168, HMul.hMul (α := EReal) (β := EReal) (γ := EReal) (Gl (alm m ρ c) (Zm m ρ c) r k.val)
        (FloatOps.sitofp (F := Ideal) .bf16 (nib k.val (W0 (F := Ideal) m ρ c (Proc.devRef .tc main_arg5) (ix2 ⟨k.val / 2, by omega⟩ ⟨n, h⟩)))))
      (Gs (alm m ρ c) (Zm m ρ c) r)) (W0 (F := Ideal) m ρ c (Proc.devRef .tc main_arg6) (ix1 ⟨n, h⟩))
  else 0

/-- The shifted codes a grid point takes, by their formula. -/
theorem mblk0' (c : Dev nD) (t : Fin cfg1.N) (r : Fin 256) (k : Fin 7168) : iblk1 (V21 m ρ) c 0 t (ix2 r k)
    = Gl (alm m ρ c) (Zm m ρ c) r.val k.val := (mblk0 m ρ c t r k).trans (W21_lhs m ρ c r k)
/-- The scales a grid point takes, by their formula. -/
theorem mblk2' (c : Dev nD) (t : Fin cfg1.N) (r : Fin 256) : iblk1 (V21 m ρ) c 2 t (ix2 r 0)
    = Gs (alm m ρ c) (Zm m ρ c) r.val := (mblk2 m ρ c t r).trans (W21_scale m ρ c r)
/-- The weight scales a grid point takes, from the caller's. -/
theorem mblk3' (c : Dev nD) (t : Fin cfg1.N) (n : Fin 1024) : iblk1 (V21 m ρ) c 3 t (ix2 0 n)
    = W0 (F := Ideal) m ρ c (Proc.devRef .tc main_arg6) (ix1 ⟨t.val * 1024 + n.val, by have := (idx1 t).2.2.2.2.2; omega⟩) :=
  (mblk3 m ρ c t n).trans (W21_ws m ρ c _)

/-- The array the product leaves. -/
theorem arrM (c : Dev nD) : (dat1 (V21 m ρ) c).arrAt 4 cfg1.N
    = (fun y : S256x18432.Idx => Ym m ρ c (y 0).val (y 1).val : Vec Ideal S256x18432 .bf16) := by
  have h5 : W21 (F := Ideal) m ρ c (Proc.devRef .tc main_arg5) = W0 (F := Ideal) m ρ c (Proc.devRef .tc main_arg5) :=
    W21_args m ρ c main_arg5 (by decide)
  refine (dat1 (V21 m ρ) c).arrAt_eq_of_covers 4 _ (by decide +kernel) fun t hf y => ?_
  have ht := (idx1 t).2.2.2.2.2
  blk_simp [idx1 t]
  rw [after1_4]
  frame_out
  idx_vars y
  refine (pay1_apply _ _ _ _ y0 y1).trans ?_
  simp only [mblk0', mblk1, mblk2', mblk3', h5]
  unfold Ym
  rw [dif_pos (by have := y1.isLt; omega)]

/-- The kernel's second result, the codes, at an index. -/
theorem r_v39 (c : Dev nD) (b : Fin 2) (s : Fin 128) (n : Fin 7168) : W23 (F := Ideal) m ρ c (Proc.devRef .tc main_v39) (ix3 b s n)
    = Gc (alm m ρ c) (Zm m ρ c) (b.val * 128 + s.val) n.val := by
  have h : W22 (F := Ideal) m ρ c (Proc.devRef .tc main_v35_0) = W20 (F := Ideal) m ρ c (Proc.devRef .tc main_v35_0) :=
    (W22_of m ρ c main_v35_0 (by decide)).trans (W21_of m ρ c main_v35_0 (by decide))
  after_reads_at
  rw [h, W21_codes]
/-- The kernel's third result, the scales, at an index. -/
theorem r_v40 (c : Dev nD) (b : Fin 2) (s : Fin 128) : W23 (F := Ideal) m ρ c (Proc.devRef .tc main_v40) (ix2 b s)
    = Gs (alm m ρ c) (Zm m ρ c) (b.val * 128 + s.val) := by
  have h : W22 (F := Ideal) m ρ c (Proc.devRef .tc main_v35_2) = W21 (F := Ideal) m ρ c (Proc.devRef .tc main_v35_2) :=
    (W22_of m ρ c main_v35_2 (by decide))
  after_reads_at
  rw [h]
  exact W21_scale m ρ c ⟨b.val * 128 + s.val, by omega⟩
/-- The kernel's fourth result, the zero points, at an index. -/
theorem r_v41 (c : Dev nD) (b : Fin 2) (s : Fin 128) : W23 (F := Ideal) m ρ c (Proc.devRef .tc main_v41) (ix2 b s)
    = FloatOps.fptosi (F := Ideal) (φ := .f32) 32 (Gz (alm m ρ c) (Zm m ρ c) (b.val * 128 + s.val)) := by
  have h : W22 (F := Ideal) m ρ c (Proc.devRef .tc main_v35_3) = W20 (F := Ideal) m ρ c (Proc.devRef .tc main_v35_3) :=
    (W22_of m ρ c main_v35_3 (by decide)).trans (W21_of m ρ c main_v35_3 (by decide))
  after_reads_at
  rw [h]
  exact W20_zero m ρ c ⟨b.val * 128 + s.val, by omega⟩
/-- The kernel's first result, the product, at an index. -/
theorem r_v38 (c : Dev nD) (b : Fin 2) (s : Fin 128) (n : Fin 18432) : W23 (F := Ideal) m ρ c (Proc.devRef .tc main_v38) (ix3 b s n)
    = Ym m ρ c (b.val * 128 + s.val) n := by
  have h : W22 (F := Ideal) m ρ c (Proc.devRef .tc main_v37) = _ := (W22_arr m ρ c 4).trans (arrM m ρ c)
  after_reads_at
  rw [h]
  rfl

end Cert.KernelIdeal.Val
end
end
-- ==== Proof.R1.lean ====
/- The reference's four results read at an index, in the terms the kernel's results are read in. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.M1
public import proofs.«01_k».proof.Proof.Gen.ReferenceIdeal.Read

@[expose] public section

set_option maxRecDepth 16384

noncomputable section

namespace Cert.KernelIdeal.Val

open Cert.KernelIdeal Cert.KernelIdeal.Gen Idealize.ShloMosaic Idealize.ShloMosaic.TcCoe Idealize.SL.Sem

open Cert.ReferenceIdeal.Read

/-- Channel `l` of token `t`, scaled: tokens counted over both batches. -/
def RX (x0 : FVec Ideal S2x128x7168 .bf16) (x1 : FVec Ideal S7168 .f32) (t l : ℕ) : EReal :=
  if h : t < 256 ∧ l < 7168 then
    HMul.hMul (α := EReal) (β := EReal) (γ := EReal) (x0 (ix3 ⟨t / 128, by omega⟩ ⟨t % 128, by omega⟩ ⟨l, h.2⟩)) (x1 (ix1 ⟨l, h.2⟩))
  else 0
/-- The 64-row mixing matrix. -/
def RQ (x2 : FVec Ideal S64x64 .bf16) (i a : ℕ) : EReal := if h : i < 64 ∧ a < 64 then x2 (ix2 ⟨i, h.1⟩ ⟨a, h.2⟩) else 0
/-- The 112-row mixing matrix, columns from 112 on filled with the first. -/
def RP (x3 : FVec Ideal S112x112 .bf16) (p l : ℕ) : EReal :=
  if h : p < 112 then if h' : l < 112 then x3 (ix2 ⟨p, h⟩ ⟨l, h'⟩) else x3 (ix2 ⟨p, h⟩ 0) else 0
/-- The clip ratio. -/
def Ra (x4 : FVec Ideal Cert.ReferenceIdeal.S_ .f32) : EReal := Ideal.div 1 (1 + Ideal.exp (Neg.neg (α := EReal) (x4 ix0)))

variable (x0 : FVec Ideal S2x128x7168 .bf16) (x1 : FVec Ideal S7168 .f32) (x2 : FVec Ideal S64x64 .bf16) (x3 : FVec Ideal S112x112 .bf16)
  (x4 : FVec Ideal Cert.ReferenceIdeal.S_ .f32) (x5 : IVec S3584x18432 8) (x6 : FVec Ideal S18432 .f32)

/-- The transformed activation. -/
def RZ : ℕ → ℕ → ℕ → EReal := Zk (RX x0 x1) (RP x3) (RQ x2)

/-- The reference's transformed activation. -/
theorem ref_z (b : Fin 2) (s : Fin 128) (n : Fin 7168) :
    val_main_v10 (F := Ideal) x0 x1 x2 x3 (ix3 b s n) = RZ x0 x1 x2 x3 (b.val * 128 + s.val) (n.val / 112) (n.val % 112) := by
  pointwise [val_main_v10, val_main_v9, val_main_v8, val_main_v7, val_main_v6, val_main_v5, val_main_v4, val_main_v3, val_main_v2, val_main_v1, val_main_v0]
  unfold RZ Zk Yk
  refine Finset.sum_congr rfl fun i _ => ?_
  rw [mul_comm]
  unfold RQ
  rw [dif_pos ⟨i.isLt, by omega⟩]
  refine congrArg _ (Finset.sum_congr rfl fun p _ => ?_)
  unfold RX RP
  rw [dif_pos ⟨by omega, by omega⟩, dif_pos p.isLt, dif_pos (Nat.mod_lt _ (by decide))]
  have e1 : (⟨(b.val * 128 + s.val) / 128, by omega⟩ : Fin 2) = b := Fin.ext (by show (b.val * 128 + s.val) / 128 = b.val; omega)
  have e2 : (⟨(b.val * 128 + s.val) % 128, by omega⟩ : Fin 128) = s := Fin.ext (by show (b.val * 128 + s.val) % 128 = s.val; omega)
  have e3 : (⟨i.val * 112 + p.val, by omega⟩ : Fin 7168) = ⟨112 * i.val + p.val, by omega⟩ := Fin.ext (by show i.val * 112 + p.val = 112 * i.val + p.val; omega)
  rw [e1, e2, e3]

/-- The reference's smallest channel of a token. -/
theorem ref_mn (b : Fin 2) (s : Fin 128) :
    val_main_v15 (F := Ideal) x0 x1 x2 x3 (ix2 b s) = qmn fun n => RZ x0 x1 x2 x3 (b.val * 128 + s.val) (n / 112) (n % 112) := by
  pointwise [val_main_v15, val_main_cst_1]
  rw [fold_min_inf]
  unfold qmn
  simp only [ref_z]
/-- The reference's largest channel of a token. -/
theorem ref_mx (b : Fin 2) (s : Fin 128) :
    val_main_v18 (F := Ideal) x0 x1 x2 x3 (ix2 b s) = qmx fun n => RZ x0 x1 x2 x3 (b.val * 128 + s.val) (n / 112) (n % 112) := by
  pointwise [val_main_v18, val_main_cst_2]
  rw [fold_max_sup]
  unfold qmx
  simp only [ref_z]
/-- The reference's clip ratio. -/
theorem ref_al : val_main_v14 (F := Ideal) x4 ix0 = Ra x4 := by
  unfold Ra
  pointwise [val_main_v14, val_main_v13, val_main_v12, val_main_v11, val_main_cst, val_main_cst_0]
/-- The reference's scale of a token, its third result. -/
theorem ref_sc (b : Fin 2) (s : Fin 128) :
    val_main_v25 (F := Ideal) x0 x1 x2 x3 x4 (ix2 b s) = Gs (Ra x4) (RZ x0 x1 x2 x3) (b.val * 128 + s.val) := by
  have h1 : id (constant (F := Ideal) Cert.ReferenceIdeal.S_ FTy.f32 1065353216#32) ix0 = (1 : EReal) := by
    rw [id]
    pointwise
  pointwise [val_main_v25, val_main_v24, val_main_v23, val_main_v22, val_main_v21, val_main_v20, val_main_v19, val_main_v17, val_main_v16, val_main_call0_v1, val_main_call0_v0, val_main_cst_3, val_main_cst_4]
  rw [h1, ref_al, ref_mn, ref_mx]
  unfold Gs qsc
  rfl
/-- The reference's zero point of a token, as a number. -/
theorem ref_zf (b : Fin 2) (s : Fin 128) :
    val_main_v29 (F := Ideal) x0 x1 x2 x3 x4 (ix2 b s) = Gz (Ra x4) (RZ x0 x1 x2 x3) (b.val * 128 + s.val) := by
  have h17 : val_main_v17 (F := Ideal) x0 x1 x2 x3 x4 (ix2 b s)
      = Ra x4 * qmn fun n => RZ x0 x1 x2 x3 (b.val * 128 + s.val) (n / 112) (n % 112) := by
    rw [← ref_al, ← ref_mn]
    pointwise [val_main_v17, val_main_v16]
  have h1 : id (constant (F := Ideal) Cert.ReferenceIdeal.S_ FTy.f32 1097859072#32) ix0 = Ideal.ofBits FTy.f32 1097859072#32 := rfl
  have h0 : id (constant (F := Ideal) Cert.ReferenceIdeal.S_ FTy.f32 0#32) ix0 = (0 : EReal) := by
    rw [id]
    pointwise
  pointwise [val_main_v29, val_main_v28, val_main_v27, val_main_v26, val_main_call2_v4, val_main_call2_v3, val_main_call2_v2, val_main_call2_v1, val_main_call2_v0, val_main_cst_5, val_main_cst_6]
  rw [h1, h0, ref_sc, h17]
  unfold Gz qzf Gs
  rw [zero_sub]
/-- The reference's codes, its second result. -/
theorem ref_cd (b : Fin 2) (s : Fin 128) (n : Fin 7168) :
    val_main_v39 (F := Ideal) x0 x1 x2 x3 x4 (ix3 b s n) = Gc (Ra x4) (RZ x0 x1 x2 x3) (b.val * 128 + s.val) n.val := by
  have h1 : id (constant (F := Ideal) Cert.ReferenceIdeal.S_ FTy.f32 1097859072#32) ix0 = Ideal.ofBits FTy.f32 1097859072#32 := rfl
  have h0 : id (constant (F := Ideal) Cert.ReferenceIdeal.S_ FTy.f32 0#32) ix0 = (0 : EReal) := by
    rw [id]
    pointwise
  pointwise [val_main_v39, val_main_v38, val_main_v37, val_main_v36, val_main_v35, val_main_v34, val_main_v33, val_main_v32, val_main_v31, val_main_v30, val_main_call4_v4, val_main_call4_v3, val_main_call4_v2, val_main_call4_v1, val_main_call4_v0, val_main_cst_7, val_main_cst_8]
  rw [h1, h0, ref_sc, ref_zf, ref_z]
  rfl
/-- The reference's integer zero point, its fourth result. -/
theorem ref_zp (b : Fin 2) (s : Fin 128) :
    val_main_v40 (F := Ideal) x0 x1 x2 x3 x4 (ix2 b s) = FloatOps.fptosi (F := Ideal) (φ := .f32) 32 (Gz (Ra x4) (RZ x0 x1 x2 x3) (b.val * 128 + s.val)) := by
  pointwise [val_main_v40]
  rw [ref_zf]

/-- The low nibble of a packed byte as a number, as the reference unpacks it. -/
def wlow (v : BitVec 8) : EReal :=
  FloatOps.sitofp (F := Ideal) .bf16 (IntOp.subi (IntOp.andi (BitVec.setWidth 32 v) 15#32)
    (IntOp.muli (16#32) (BitVec.setWidth 32 (IntOp.cmpi CmpIPredicate.sge (IntOp.andi (BitVec.setWidth 32 v) 15#32) 8#32))))
/-- The high nibble of a packed byte as a number, as the reference unpacks it. -/
def whigh (v : BitVec 8) : EReal :=
  FloatOps.sitofp (F := Ideal) .bf16 (IntOp.subi (IntOp.shrsi ArithUnit.host (BitVec.setWidth 32 v) 4#32)
    (IntOp.muli (16#32) (BitVec.setWidth 32 (IntOp.cmpi CmpIPredicate.sge (IntOp.shrsi ArithUnit.host (BitVec.setWidth 32 v) 4#32) 8#32))))
/-- A code as a number, as the reference converts it. -/
def cnum (v : BitVec 8) : EReal := FloatOps.sitofp (F := Ideal) .bf16 (BitVec.signExtend 32 v)
/-- A zero point as a number, through its integer. -/
def znum (z : EReal) : EReal := FloatOps.sitofp (F := Ideal) .f32 (FloatOps.fptosi (F := Ideal) (φ := .f32) 32 z)

/-- The reference's low weights. -/
theorem ref_w52 (p : Fin 3584) (n : Fin 18432) : val_main_v52 (F := Ideal) x5 (ix2 p n) = wlow (x5 (ix2 p n)) := by
  unfold wlow
  pointwise [val_main_v52, val_main_v51, val_main_v50, val_main_v49, val_main_v48, val_main_v47, val_main_v46, val_main_v45, val_main_v44, val_main_v43, val_main_c, val_main_c_9, val_main_c_10]
/-- The reference's high weights. -/
theorem ref_w61 (p : Fin 3584) (n : Fin 18432) : val_main_v61 (F := Ideal) x5 (ix2 p n) = whigh (x5 (ix2 p n)) := by
  unfold whigh
  pointwise [val_main_v61, val_main_v60, val_main_v59, val_main_v58, val_main_v57, val_main_v56, val_main_v55, val_main_v54, val_main_v53, val_main_v43, val_main_c_11, val_main_c_12, val_main_c_13]
/-- The reference's first result at an index. -/
theorem ref_y (b : Fin 2) (s : Fin 128) (n : Fin 18432) : val_main_v85 (F := Ideal) x0 x1 x2 x3 x4 x5 x6 (ix3 b s n)
    = HMul.hMul (α := EReal) (β := EReal) (γ := EReal)
      (((∑ k : Fin 3584, cnum (Gc (Ra x4) (RZ x0 x1 x2 x3) (b.val * 128 + s.val) (2 * k.val)) * wlow (x5 (ix2 k n)))
        + (∑ k : Fin 3584, cnum (Gc (Ra x4) (RZ x0 x1 x2 x3) (b.val * 128 + s.val) (1 + 2 * k.val)) * whigh (x5 (ix2 k n)))
        - znum (Gz (Ra x4) (RZ x0 x1 x2 x3) (b.val * 128 + s.val)) * ((∑ k : Fin 3584, wlow (x5 (ix2 k n))) + ∑ k : Fin 3584, whigh (x5 (ix2 k n))))
      * Gs (Ra x4) (RZ x0 x1 x2 x3) (b.val * 128 + s.val)) (x6 (ix1 n)) := by
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v42, val_main_v41, val_main_cst_14, val_main_cst_15]
  simp only [ref_w52, ref_w61, ref_cd, ref_zp, ref_sc]
  rfl

end Cert.KernelIdeal.Val
end
end
-- ==== Proof.A1.lean ====
/- Subtracting the zero point before the product equals subtracting its multiple of the column sum after it: every factor is a finite whole number. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.R1

@[expose] public section

set_option maxRecDepth 16384

noncomputable section

namespace Cert.KernelIdeal.Val

open Cert.KernelIdeal Cert.KernelIdeal.Gen Idealize.ShloMosaic Idealize.ShloMosaic.TcCoe Idealize.SL.Sem

/-- The upper clip bound is the number 15. -/
theorem ofb15 : Ideal.ofBits FTy.f32 1097859072#32 = ((15 : ℝ) : EReal) := by
  simp [Ideal.ofBits, Ideal.ieee]
  rw [← EReal.coe_mul]
  norm_num

/-- A rounded value clipped to 0..15 is one of the whole numbers 0..15. -/
theorem clip_int (f : ℝ → ℤ) (e : EReal) : ∃ k : ℤ, 0 ≤ k ∧ k ≤ 15 ∧ min (Ideal.ofBits FTy.f32 1097859072#32) (max 0 (Ideal.liftRound f e)) = ((k : ℝ) : EReal) := by
  rw [ofb15]
  induction e with
  | bot => exact ⟨0, by omega, by omega, by simp⟩
  | top => exact ⟨15, by omega, by omega, by simp⟩
  | coe r =>
    refine ⟨min 15 (max 0 (f r)), by omega, by omega, ?_⟩
    rw [Ideal.liftRound_coe]
    push_cast
    rw [EReal.coe_strictMono.monotone.map_min, EReal.coe_strictMono.monotone.map_max]
    rfl

/-- Converting a zero point to an integer and back keeps it, since it is a whole number 0..15. -/
theorem znum_int (k : ℤ) (h0 : 0 ≤ k) (h1 : k ≤ 15) : znum ((k : ℝ) : EReal) = ((k : ℝ) : EReal) := by
  show (((Ideal.fptosi 32 ((k : ℝ) : EReal)).toInt : ℝ) : EReal) = _
  have : (Ideal.fptosi 32 ((k : ℝ) : EReal)).toInt = k := by
    unfold Ideal.fptosi
    rw [Ideal.toIntClamped_coe, if_pos (by exact_mod_cast h0), Int.floor_intCast]
    interval_cases k <;> rfl
  rw [this]

/-- The zero point is a whole number 0..15. -/
theorem Gz_int (al : EReal) (Z : ℕ → ℕ → ℕ → EReal) (t : ℕ) : ∃ k : ℤ, 0 ≤ k ∧ k ≤ 15 ∧ Gz al Z t = ((k : ℝ) : EReal) := by
  unfold Gz qzf
  exact clip_int _ _

/-- The two unpackings of a byte agree. -/
theorem low_nib (k : ℕ) (v : BitVec 8) : wlow v = (((nib (2 * k) v).toInt : ℝ) : EReal) := by
  have hk : nib (2 * k) v = nib 0 v := by
    unfold nib; rw [Nat.mul_mod_right]
  rw [hk]
  have key : ∀ v : BitVec 8, (IntOp.subi (IntOp.andi (BitVec.setWidth 32 v) 15#32)
    (IntOp.muli (16#32) (BitVec.setWidth 32 (IntOp.cmpi CmpIPredicate.sge (IntOp.andi (BitVec.setWidth 32 v) 15#32) 8#32)))).toInt = (nib 0 v).toInt := by
    decide +kernel
  rw [← key v]
  rfl
/-- The two unpackings of a byte's high half agree. -/
theorem high_nib (k : ℕ) (v : BitVec 8) : whigh v = (((nib (1 + 2 * k) v).toInt : ℝ) : EReal) := by
  have hk : nib (1 + 2 * k) v = nib 1 v := by
    unfold nib; rw [Nat.add_mul_mod_self_left]
  rw [hk]
  have key : ∀ v : BitVec 8, (IntOp.subi (IntOp.shrsi ArithUnit.host (BitVec.setWidth 32 v) 4#32)
    (IntOp.muli (16#32) (BitVec.setWidth 32 (IntOp.cmpi CmpIPredicate.sge (IntOp.shrsi ArithUnit.host (BitVec.setWidth 32 v) 4#32) 8#32)))).toInt = (nib 1 v).toInt := by
    decide +kernel
  rw [← key v]
  rfl

/-- A code read as a number is its signed value. -/
theorem cnum_eq (v : BitVec 8) : cnum v = ((v.toInt : ℝ) : EReal) := by
  show (((BitVec.signExtend 32 v).toInt : ℝ) : EReal) = _
  rw [BitVec.toInt_signExtend_of_le (by decide)]

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over an even number of terms, its even and odd terms apart. -/
theorem even_odd (f : ℕ → ℝ) (n : ℕ) : ∑ k ∈ Finset.range (2 * n), f k = (∑ x ∈ Finset.range n, f (2 * x)) + ∑ x ∈ Finset.range n, f (1 + 2 * x) := by
  induction n with
  | zero => simp
  | succ n ih =>
    rw [show 2 * (n + 1) = 2 * n + 1 + 1 by omega, Finset.sum_range_succ, Finset.sum_range_succ, Finset.sum_range_succ, Finset.sum_range_succ, ih,
      show 1 + 2 * n = 2 * n + 1 by omega]
    ring

/-- Subtracting the zero point before the product, or its multiple of the column sum after. -/
theorem split_real (cf w : ℕ → ℝ) (z : ℝ) : ∑ k : Fin 7168, (cf k.val - z) * w k.val
    = (∑ x : Fin 3584, cf (2 * x.val) * w (2 * x.val)) + (∑ x : Fin 3584, cf (1 + 2 * x.val) * w (1 + 2 * x.val))
      - z * ((∑ x : Fin 3584, w (2 * x.val)) + ∑ x : Fin 3584, w (1 + 2 * x.val)) := by
  have h1 := Finset.sum_range (n := 7168) fun k => (cf k - z) * w k
  have h2 := Finset.sum_range (n := 3584) fun x => cf (2 * x) * w (2 * x)
  have h3 := Finset.sum_range (n := 3584) fun x => cf (1 + 2 * x) * w (1 + 2 * x)
  have h4 := Finset.sum_range (n := 3584) fun x => w (2 * x)
  have h5 := Finset.sum_range (n := 3584) fun x => w (1 + 2 * x)
  rw [← h1, ← h2, ← h3, ← h4, ← h5]
  have := even_odd (fun k => (cf k - z) * w k) 3584
  rw [show 2 * 3584 = 7168 from rfl] at this
  rw [this, mul_add, Finset.mul_sum, Finset.mul_sum]
  simp only [sub_mul, Finset.sum_sub_distrib]
  ring

/-- One entry of the product: the kernel's sum over shifted codes is the reference's two half sums less the zero point times the column sums. -/
theorem product_eq (al : EReal) (Z : ℕ → ℕ → ℕ → EReal) (t : ℕ) (V : Fin 3584 → BitVec 8) :
    (∑ k : Fin 7168, HMul.hMul (α := EReal) (β := EReal) (γ := EReal) (Gl al Z t k.val) (FloatOps.sitofp (F := Ideal) .bf16 (nib k.val (V ⟨k.val / 2, by omega⟩))))
      = (∑ k : Fin 3584, cnum (Gc al Z t (2 * k.val)) * wlow (V k)) + (∑ k : Fin 3584, cnum (Gc al Z t (1 + 2 * k.val)) * whigh (V k))
        - znum (Gz al Z t) * ((∑ k : Fin 3584, wlow (V k)) + ∑ k : Fin 3584, whigh (V k)) := by
  obtain ⟨z, h0, h1, hz⟩ := Gz_int al Z t
  let w : ℕ → ℝ := fun k => if h : k / 2 < 3584 then ((nib k (V ⟨k / 2, h⟩)).toInt : ℝ) else 0
  have hl : ∀ k : Fin 3584, wlow (V k) = ((w (2 * k.val) : ℝ) : EReal) := fun k => by
    have hk : (⟨2 * k.val / 2, by omega⟩ : Fin 3584) = k := Fin.ext (by show 2 * k.val / 2 = k.val; omega)
    rw [low_nib k.val]
    simp only [w]
    rw [dif_pos (by omega), hk]
  have hh : ∀ k : Fin 3584, whigh (V k) = ((w (1 + 2 * k.val) : ℝ) : EReal) := fun k => by
    have hk : (⟨(1 + 2 * k.val) / 2, by omega⟩ : Fin 3584) = k := Fin.ext (by show (1 + 2 * k.val) / 2 = k.val; omega)
    rw [high_nib k.val]
    simp only [w]
    rw [dif_pos (by omega), hk]
  have hw : ∀ k : Fin 7168, (FloatOps.sitofp (F := Ideal) .bf16 (nib k.val (V ⟨k.val / 2, by omega⟩)) : EReal) = ((w k.val : ℝ) : EReal) := fun k => by
    simp only [w]
    rw [dif_pos (by omega)]
    rfl
  have hg : ∀ k, Gl al Z t k = (((((Gc al Z t k).toInt : ℝ) - (z : ℝ) : ℝ)) : EReal) := fun k => by
    unfold Gl
    rw [hz, EReal.coe_sub]
    rfl
  simp only [hl, hh, hw, hg, cnum_eq]
  rw [hz, znum_int z h0 h1]
  simp only [← EReal.coe_mul, ← coe_sum, ← EReal.coe_add, ← EReal.coe_sub]
  exact congrArg _ (split_real (fun k => ((Gc al Z t k).toInt : ℝ)) w z)

end Cert.KernelIdeal.Val
end
end
-- ==== Proof.E1.lean ====
/- The kernel's four results equal the reference's at the same arguments. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.A1

@[expose] public section

set_option maxRecDepth 16384

noncomputable section

namespace Cert.KernelIdeal.Val

open Cert.KernelIdeal Cert.KernelIdeal.Gen Idealize.ShloMosaic Idealize.ShloMosaic.TcCoe Idealize.SL.Sem

open Cert.ReferenceIdeal.Read
variable (m : (ℓ : Loc nD τ sig) → Buf (Elt Ideal) ℓ) (ρ : Dev nD → PrngReg)

/-- The kernel's transformed activation is the reference's, the two written with the same sums. -/
theorem Zm_eq (c : Dev nD) : Zm m ρ c = RZ (W0 m ρ c (Proc.devRef .tc main_arg0)) (W0 m ρ c (Proc.devRef .tc main_arg1))
    (W0 m ρ c (Proc.devRef .tc main_arg2)) (W0 m ρ c (Proc.devRef .tc main_arg3)) := rfl
/-- The kernel's clip ratio is the reference's. -/
theorem alm_eq (c : Dev nD) : alm m ρ c = Ra (W0 m ρ c (Proc.devRef .tc main_arg4)) := rfl

/-- The second result. -/
theorem codes_eq (c : Dev nD) : W23 (F := Ideal) m ρ c (Proc.devRef .tc main_v39)
    = val_main_v39 (F := Ideal) (W0 m ρ c (Proc.devRef .tc main_arg0)) (W0 m ρ c (Proc.devRef .tc main_arg1))
      (W0 m ρ c (Proc.devRef .tc main_arg2)) (W0 m ρ c (Proc.devRef .tc main_arg3)) (W0 m ρ c (Proc.devRef .tc main_arg4)) := by
  funext y
  idx_vars y
  exact (r_v39 m ρ c y0 y1 y2).trans (ref_cd _ _ _ _ _ y0 y1 y2).symm

/-- The third result. -/
theorem scale_eq (c : Dev nD) : W23 (F := Ideal) m ρ c (Proc.devRef .tc main_v40)
    = val_main_v25 (F := Ideal) (W0 m ρ c (Proc.devRef .tc main_arg0)) (W0 m ρ c (Proc.devRef .tc main_arg1))
      (W0 m ρ c (Proc.devRef .tc main_arg2)) (W0 m ρ c (Proc.devRef .tc main_arg3)) (W0 m ρ c (Proc.devRef .tc main_arg4)) := by
  funext y
  idx_vars y
  exact (r_v40 m ρ c y0 y1).trans (ref_sc _ _ _ _ _ y0 y1).symm

/-- The fourth result. -/
theorem zero_eq (c : Dev nD) : W23 (F := Ideal) m ρ c (Proc.devRef .tc main_v41)
    = val_main_v40 (F := Ideal) (W0 m ρ c (Proc.devRef .tc main_arg0)) (W0 m ρ c (Proc.devRef .tc main_arg1))
      (W0 m ρ c (Proc.devRef .tc main_arg2)) (W0 m ρ c (Proc.devRef .tc main_arg3)) (W0 m ρ c (Proc.devRef .tc main_arg4)) := by
  funext y
  idx_vars y
  exact (r_v41 m ρ c y0 y1).trans (ref_zp _ _ _ _ _ y0 y1).symm

/-- The first result. -/
theorem product_result_eq (c : Dev nD) : W23 (F := Ideal) m ρ c (Proc.devRef .tc main_v38)
    = val_main_v85 (F := Ideal) (W0 m ρ c (Proc.devRef .tc main_arg0)) (W0 m ρ c (Proc.devRef .tc main_arg1))
      (W0 m ρ c (Proc.devRef .tc main_arg2)) (W0 m ρ c (Proc.devRef .tc main_arg3)) (W0 m ρ c (Proc.devRef .tc main_arg4))
      (W0 m ρ c (Proc.devRef .tc main_arg5)) (W0 m ρ c (Proc.devRef .tc main_arg6)) := by
  funext y
  idx_vars y
  refine (r_v38 m ρ c y0 y1 y2).trans (Eq.trans ?_ (ref_y _ _ _ _ _ _ _ y0 y1 y2).symm)
  unfold Ym
  rw [dif_pos y2.isLt, ← Zm_eq m ρ c, ← alm_eq m ρ c]
  rw [product_eq (alm m ρ c) (Zm m ρ c) (y0.val * 128 + y1.val)
    (fun k => (W0 (F := Ideal) m ρ c (Proc.devRef .tc main_arg5) : Vec Ideal S3584x18432 .i8) (ix2 k y2))]

end Cert.KernelIdeal.Val
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.V1
public import proofs.«01_k».proof.Proof.E1
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The reference ends with its arguments unchanged; it declares no semaphore, so every counter is zero. -/
theorem frame_reference [h : Cert.ReferenceIdeal.Facts] : Cert.quiescent_ReferenceIdeal := by
  intro m ρ _
  exact (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- Kernel and reference, from the same arguments, end with the same four results: each of the kernel's is the
    reference's own term at the launch contents (`product_result_eq`, `codes_eq`, `scale_eq`, `zero_eq`). -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, Cert.KernelIdeal.Val.run_values (F := Ideal) m g, ?_⟩
  refine (θ_run Cert.ReferenceIdeal.defs _ _).mono (fun r h c => ?_) (Cert.ReferenceIdeal.Value.run (F := Ideal) m' g')
  obtain ⟨e0, e1, e2, e3, e4, e5, e6⟩ := hargs c
  obtain ⟨h0, h1, h2, h3, hrest⟩ := h c
  refine ⟨h0.trans ?_, h1.trans ?_, h2.trans ?_, h3.trans ?_, hrest⟩
  · rw [Cert.ReferenceIdeal.Read.val_main_v85_eq, e0, e1, e2, e3, e4, e5, e6]
    exact (Cert.KernelIdeal.Val.product_result_eq m g c).symm
  · rw [Cert.ReferenceIdeal.Read.val_main_v39_eq, e0, e1, e2, e3, e4]
    exact (Cert.KernelIdeal.Val.codes_eq m g c).symm
  · rw [Cert.ReferenceIdeal.Read.val_main_v25_eq, e0, e1, e2, e3, e4]
    exact (Cert.KernelIdeal.Val.scale_eq m g c).symm
  · rw [Cert.ReferenceIdeal.Read.val_main_v40_eq, e0, e1, e2, e3, e4]
    exact (Cert.KernelIdeal.Val.zero_eq m g c).symm

/-- What the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  frame_reference,
  ⟨IdealRules.bf16_pair.bufferStatement _ _, IdealRules.bf16_pair.packStatement _,
    IdealRules.bf16_pair.statement _ _, IdealRules.bf16_pair.statement _ _⟩,
  algebraic⟩

end Cert.Proof

end
